-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x16384x1 : Shape := ⟨3, ![16, 16384, 1]⟩
abbrev S2x2684354 : Shape := ⟨2, ![2, 2684354]⟩
abbrev S2684354 : Shape := ⟨1, ![2684354]⟩
abbrev S16384x1 : Shape := ⟨2, ![16384, 1]⟩
abbrev S_ : Shape := ⟨0, ![]⟩

class Facts : Prop where
  bcast_S_S2x2684354 : S_.BroadcastsInDim S2x2684354 (![] : Fin 0 → Fin S2x2684354.rank)
  reducesTo_S2x2684354_S_d0_1 : S2x2684354.ReducesTo [0, 1] S_
  h_S_ : 0 < S_.numel

variable [Facts]

def fn {F : FTy → Type} [FloatOps F] (main_arg0 : FVec F S16x16384x1 .f32) (main_arg1 : IVec S2x2684354 32) (main_arg2 : FVec F S2684354 .f32) (main_arg3 : FVec F S16384x1 .f32) : IVec S_ 1 :=
  let main_c : IVec S_ 32 := constantI S_ 32 0#32
  let main_v0 : IVec S2x2684354 32 := broadcastInDim S2x2684354 ![] bcast_S_S2x2684354 main_c
  let main_v1 : IVec S2x2684354 1 := cmpi .sge main_arg1 main_v0
  let main_c_0 : IVec S_ 32 := constantI S_ 32 16384#32
  let main_v2 : IVec S2x2684354 32 := broadcastInDim S2x2684354 ![] bcast_S_S2x2684354 main_c_0
  let main_v3 : IVec S2x2684354 1 := cmpi .slt main_arg1 main_v2
  let main_v4 : IVec S2x2684354 1 := andi main_v1 main_v3
  let main_c_1 : IVec S_ 1 := constantI S_ 1 1#1
  let main_v5 : IVec S_ 1 := (fun x v => Host.reduce IntOp.andi x v reducesTo_S2x2684354_S_d0_1 h_S_) main_v4 main_c_1
  main_v5
-- ==== Kernel.lean ====
abbrev S16x16384x1 : Shape := ⟨3, ![16, 16384, 1]⟩
abbrev S2x2684354 : Shape := ⟨2, ![2, 2684354]⟩
abbrev S2684354 : Shape := ⟨1, ![2684354]⟩
abbrev S16384x1 : Shape := ⟨2, ![16384, 1]⟩
abbrev S16x16384 : Shape := ⟨2, ![16, 16384]⟩
abbrev S1x2684354 : Shape := ⟨2, ![1, 2684354]⟩
abbrev S_ : Shape := ⟨0, ![]⟩
abbrev S2686976 : Shape := ⟨1, ![2686976]⟩
abbrev S16384 : Shape := ⟨1, ![16384]⟩
abbrev S64x16384 : Shape := ⟨2, ![64, 16384]⟩
abbrev S8192 : Shape := ⟨1, ![8192]⟩
abbrev S1x16384 : Shape := ⟨2, ![1, 16384]⟩
abbrev S16 : Shape := ⟨1, ![16]⟩
abbrev S4x16x16384 : Shape := ⟨3, ![4, 16, 16384]⟩
abbrev S4x16x2048 : Shape := ⟨3, ![4, 16, 2048]⟩
abbrev S16x2048 : Shape := ⟨2, ![16, 2048]⟩

abbrev nBuf : Table → Nat
  | .hbm => 23
  | .local .tc .vmem => 4
  | .local .scVector .vmem => 7
  | _ => 0

abbrev bufTy : (tb : Table) → Fin (nBuf tb) → BufTy
  | .hbm, ⟨0, _⟩ => ⟨S16x16384x1, .f32⟩
  | .hbm, ⟨1, _⟩ => ⟨S2x2684354, .i32⟩
  | .hbm, ⟨2, _⟩ => ⟨S2684354, .f32⟩
  | .hbm, ⟨3, _⟩ => ⟨S16384x1, .f32⟩
  | .hbm, ⟨4, _⟩ => ⟨S16x16384, .f32⟩
  | .hbm, ⟨5, _⟩ => ⟨S1x2684354, .i32⟩
  | .hbm, ⟨6, _⟩ => ⟨S2684354, .i32⟩
  | .hbm, ⟨7, _⟩ => ⟨S_, .i32⟩
  | .hbm, ⟨8, _⟩ => ⟨S_, .i32⟩
  | .hbm, ⟨9, _⟩ => ⟨S2686976, .i32⟩
  | .hbm, ⟨10, _⟩ => ⟨S1x2684354, .i32⟩
  | .hbm, ⟨11, _⟩ => ⟨S2684354, .i32⟩
  | .hbm, ⟨12, _⟩ => ⟨S_, .i32⟩
  | .hbm, ⟨13, _⟩ => ⟨S_, .i32⟩
  | .hbm, ⟨14, _⟩ => ⟨S2686976, .i32⟩
  | .hbm, ⟨15, _⟩ => ⟨S_, .i32⟩
  | .hbm, ⟨16, _⟩ => ⟨S_, .f32⟩
  | .hbm, ⟨17, _⟩ => ⟨S2686976, .f32⟩
  | .hbm, ⟨18, _⟩ => ⟨S16384, .f32⟩
  | .hbm, ⟨19, _⟩ => ⟨S64x16384, .f32⟩
  | .hbm, ⟨20, _⟩ => ⟨S4x16x16384, .f32⟩
  | .hbm, ⟨21, _⟩ => ⟨S16x16384, .f32⟩
  | .hbm, ⟨22, _⟩ => ⟨S16x16384x1, .f32⟩
  | .local .tc .vmem, ⟨0, _⟩ => ⟨S4x16x2048, .f32⟩
  | .local .tc .vmem, ⟨1, _⟩ => ⟨S4x16x2048, .f32⟩
  | .local .tc .vmem, ⟨2, _⟩ => ⟨S16x2048, .f32⟩
  | .local .tc .vmem, ⟨3, _⟩ => ⟨S16x2048, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S8192, .i32⟩
  | .local .scVector .vmem, ⟨5, _⟩ => ⟨S8192, .i32⟩
  | .local .scVector .vmem, ⟨6, _⟩ => ⟨S8192, .f32⟩
  | _, _ => ⟨S16x16384x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v0_scv : Ref sig .scVector := ⟨.hbm, 4, rfl⟩
abbrev main_v3_scv : Ref sig .scVector := ⟨.hbm, 9, rfl⟩
abbrev main_v6_scv : Ref sig .scVector := ⟨.hbm, 14, rfl⟩
abbrev main_v7_scv : Ref sig .scVector := ⟨.hbm, 17, rfl⟩
abbrev main_v8_scv : Ref sig .scVector := ⟨.hbm, 18, rfl⟩
abbrev main_v9_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 9
abbrev cc1_sem0_1 : DmaSem sig := 10
abbrev cc1_sem1_0 : DmaSem sig := 11
abbrev cc1_sem1_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32 : BitVec 32 := 2#32
  let v29 : BitVec 32 := Scalar.muli v11 c2_i32
  let c0_i32_22_r0 : BitVec 32 := 0#32
  ![v29.toNat, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32 : BitVec 32 := 2#32
  let v29 : BitVec 32 := Scalar.muli v11 c2_i32
  let c1_i32_10 : BitVec 32 := 1#32
  let v30 : BitVec 32 := Scalar.addi v29 c1_i32_10
  let c0_i32_22_r1 : BitVec 32 := 0#32
  ![v30.toNat, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c0_i32_13 : BitVec 32 := 0#32
  let v34 : BitVec 1 := Scalar.cmpi .ne v28 c0_i32_13
  let v35 : BitVec 32 := Scalar.extui v34
  let c0_i32_14 : BitVec 32 := 0#32
  let v36 : BitVec 1 := Scalar.cmpi .ne v35 c0_i32_14
  v36

@[reducible] def k0_t1_loop : Scf.Loop 32 :=
  let c0_i32_23 : BitVec 32 := 0#32
  let c1024_i32 : BitVec 32 := 1024#32
  let v45 : BitVec 32 := Scalar.addi c0_i32_23 c1024_i32
  let c1_i32_24 : BitVec 32 := 1#32
  ⟨c0_i32_23, v45, c1_i32_24⟩
def k0_off3 (k0_t1 : Fin k0_t1_loop.trips) : Fin 1 → Nat :=
  let c0_i32_23 : BitVec 32 := 0#32
  let c1_i32_24 : BitVec 32 := 1#32
  let arg15 : BitVec 32 := Scf.iv c0_i32_23 c1_i32_24 k0_t1
  let c16_i32_26 : BitVec 32 := 16#32
  let v46 : BitVec 32 := Scalar.muli arg15 c16_i32_26
  let v47 : Index := Scalar.indexCast v46
  ![v47.toNat]
@[reducible] def k0_t2_loop : Scf.Loop 32 :=
  let c0_i32_16 : BitVec 32 := 0#32
  let c82_i32 : BitVec 32 := 82#32
  let v38 : BitVec 32 := Scalar.addi c0_i32_16 c82_i32
  let c1_i32_17 : BitVec 32 := 1#32
  ⟨c0_i32_16, v38, c1_i32_17⟩
def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c671744_i32 : BitVec 32 := 671744#32
  let v37 : BitVec 32 := Scalar.muli v28 c671744_i32
  let c0_i32_16 : BitVec 32 := 0#32
  let c1_i32_17 : BitVec 32 := 1#32
  let arg15 : BitVec 32 := Scf.iv c0_i32_16 c1_i32_17 k0_t2
  let c8192_i32 : BitVec 32 := 8192#32
  let v44 : BitVec 32 := Scalar.muli arg15 c8192_i32
  let v45 : BitVec 32 := Scalar.addi v37 v44
  ![v45.toNat]
@[reducible] def k0_t3_loop : Scf.Loop 32 :=
  let c0_i32_23 : BitVec 32 := 0#32
  let c512_i32 : BitVec 32 := 512#32
  let v46 : BitVec 32 := Scalar.addi c0_i32_23 c512_i32
  let c1_i32_24 : BitVec 32 := 1#32
  ⟨c0_i32_23, v46, c1_i32_24⟩
def k0_off5 (k0_t3 : Fin k0_t3_loop.trips) : Fin 1 → Nat :=
  let c0_i32_23 : BitVec 32 := 0#32
  let c1_i32_24 : BitVec 32 := 1#32
  let arg16 : BitVec 32 := Scf.iv c0_i32_23 c1_i32_24 k0_t3
  let c16_i32_26 : BitVec 32 := 16#32
  let v47 : BitVec 32 := Scalar.muli arg16 c16_i32_26
  let v48 : Index := Scalar.indexCast v47
  ![v48.toNat]

def k0_chk1 (v49 : IVec S16 32) : Prop :=
  (∀ a x, ((![v49] : Fin 1 → IVec S16 32) a x).toNat < S16384.size a) ∧
  (∀ a x, ((![v49] : Fin 1 → IVec S16 32) a x).toNat < S16384.size a)
theorem k0_idx1_inb : ∀ (v49 : IVec S16 32) (k0_hw1 : k0_chk1 v49), ∀ a x, ((![v49] : Fin 1 → IVec S16 32) a x).toNat < S16384.size a := fun v49 k0_hw1 => k0_hw1.1
theorem k0_idx2_inb : ∀ (v49 : IVec S16 32) (k0_hw1 : k0_chk1 v49), ∀ a x, ((![v49] : Fin 1 → IVec S16 32) a x).toNat < S16384.size a := fun v49 k0_hw1 => k0_hw1.2

def k0_chk2 (v51 : IVec S16 32) : Prop :=
  (∀ a x, ((![v51] : Fin 1 → IVec S16 32) a x).toNat < S16384.size a) ∧
  (∀ a x, ((![v51] : Fin 1 → IVec S16 32) a x).toNat < S16384.size a)
theorem k0_idx3_inb : ∀ (v51 : IVec S16 32) (k0_hw2 : k0_chk2 v51), ∀ a x, ((![v51] : Fin 1 → IVec S16 32) a x).toNat < S16384.size a := fun v51 k0_hw2 => k0_hw2.1
theorem k0_idx4_inb : ∀ (v51 : IVec S16 32) (k0_hw2 : k0_chk2 v51), ∀ a x, ((![v51] : Fin 1 → IVec S16 32) a x).toNat < S16384.size a := fun v51 k0_hw2 => k0_hw2.2
def k0_off6 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32_19 : BitVec 32 := 16#32
  let v39 : BitVec 32 := Scalar.muli v28 c16_i32_19
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32 : BitVec 32 := 2#32
  let v29 : BitVec 32 := Scalar.muli v11 c2_i32
  let v40 : BitVec 32 := Scalar.addi v39 v29
  let c0_i32_22_r7 : BitVec 32 := 0#32
  ![v40.toNat, 0]
def k0_off7 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c8_i32_3 : BitVec 32 := 8#32
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v1 c8_i32_3
  let c0_i32_8 : BitVec 32 := 0#32
  let v25 : BitVec 1 := Scalar.cmpi .ne v24 c0_i32_8
  let v26 : BitVec 1 := Scalar.andi v23 v25
  let v12 : BitVec 32 := Scalar.divsi v1 c8_i32_3
  let c1_i32_9 : BitVec 32 := 1#32
  let v27 : BitVec 32 := Scalar.subi v12 c1_i32_9
  let v28 : BitVec 32 := Scalar.select v26 v27 v12
  let c16_i32_20 : BitVec 32 := 16#32
  let v41 : BitVec 32 := Scalar.muli v28 c16_i32_20
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32 : BitVec 32 := 2#32
  let v29 : BitVec 32 := Scalar.muli v11 c2_i32
  let v42 : BitVec 32 := Scalar.addi v41 v29
  let c1_i32_21 : BitVec 32 := 1#32
  let v43 : BitVec 32 := Scalar.addi v42 c1_i32_21
  let c0_i32_22_r8 : BitVec 32 := 0#32
  ![v43.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x16384x1 : Shape := ⟨3, ![16, 16384, 1]⟩
abbrev S2x2684354 : Shape := ⟨2, ![2, 2684354]⟩
abbrev S2684354 : Shape := ⟨1, ![2684354]⟩
abbrev S16384x1 : Shape := ⟨2, ![16384, 1]⟩
abbrev S1x2684354 : Shape := ⟨2, ![1, 2684354]⟩
abbrev S16x16384 : Shape := ⟨2, ![16, 16384]⟩
abbrev S_ : Shape := ⟨0, ![]⟩
abbrev S2684354x1 : Shape := ⟨2, ![2684354, 1]⟩
abbrev S16x2684354 : Shape := ⟨2, ![16, 2684354]⟩
abbrev S2684354x16 : Shape := ⟨2, ![2684354, 16]⟩
abbrev S16384x16 : Shape := ⟨2, ![16384, 16]⟩
abbrev S1x16384x1 : Shape := ⟨3, ![1, 16384, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x16384x1, .f32⟩
  | .hbm, ⟨1, _⟩ => ⟨S2x2684354, .i32⟩
  | .hbm, ⟨2, _⟩ => ⟨S2684354, .f32⟩
  | .hbm, ⟨3, _⟩ => ⟨S16384x1, .f32⟩
  | .hbm, ⟨4, _⟩ => ⟨S1x2684354, .i32⟩
  | .hbm, ⟨5, _⟩ => ⟨S2684354, .i32⟩
  | .hbm, ⟨6, _⟩ => ⟨S1x2684354, .i32⟩
  | .hbm, ⟨7, _⟩ => ⟨S2684354, .i32⟩
  | .hbm, ⟨8, _⟩ => ⟨S16x16384, .f32⟩
  | .hbm, ⟨9, _⟩ => ⟨S_, .i32⟩
  | .hbm, ⟨10, _⟩ => ⟨S2684354, .i32⟩
  | .hbm, ⟨11, _⟩ => ⟨S2684354, .i1⟩
  | .hbm, ⟨12, _⟩ => ⟨S_, .i32⟩
  | .hbm, ⟨13, _⟩ => ⟨S2684354, .i32⟩
  | .hbm, ⟨14, _⟩ => ⟨S2684354, .i32⟩
  | .hbm, ⟨15, _⟩ => ⟨S2684354, .i32⟩
  | .hbm, ⟨16, _⟩ => ⟨S2684354x1, .i32⟩
  | .hbm, ⟨17, _⟩ => ⟨S16x2684354, .f32⟩
  | .hbm, ⟨18, _⟩ => ⟨S1x2684354, .f32⟩
  | .hbm, ⟨19, _⟩ => ⟨S16x2684354, .f32⟩
  | .hbm, ⟨20, _⟩ => ⟨S16x2684354, .f32⟩
  | .hbm, ⟨21, _⟩ => ⟨S2684354x16, .f32⟩
  | .hbm, ⟨22, _⟩ => ⟨S_, .f32⟩
  | .hbm, ⟨23, _⟩ => ⟨S16384x16, .f32⟩
  | .hbm, ⟨24, _⟩ => ⟨S2684354x1, .i32⟩
  | .hbm, ⟨25, _⟩ => ⟨S16384x16, .f32⟩
  | .hbm, ⟨26, _⟩ => ⟨S16x16384, .f32⟩
  | .hbm, ⟨27, _⟩ => ⟨S16x16384x1, .f32⟩
  | .hbm, ⟨28, _⟩ => ⟨S1x16384x1, .f32⟩
  | .hbm, ⟨29, _⟩ => ⟨S16x16384x1, .f32⟩
  | .hbm, ⟨30, _⟩ => ⟨S16x16384x1, .f32⟩
  | _, _ => ⟨S16x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Model.lean ====
/-
  What the kernel computes, as functions of whole arrays: the one step of a tile on sixteen edges (`grp`), a tile's
  accumulator after `n` such steps (`accN`), and the 64 rows of partial sums the 32 tiles leave (`partials`).
-/
module

public import Idealize.ShloMosaic.PureOps

@[expose] public section

noncomputable section

namespace Cert.Proof.Model

open Idealize.ShloMosaic

variable {F : FTy → Type} [FloatOps F]

/-- One row of node values, one vector of lanes, the padded edge list, a chunk of it, the sixteen rows, the partial sums. -/
abbrev Row : Shape := ⟨1, ![16384]⟩
abbrev Lane : Shape := ⟨1, ![16]⟩
abbrev Edge : Shape := ⟨1, ![2686976]⟩
abbrev Chunk : Shape := ⟨1, ![8192]⟩
abbrev Rows : Shape := ⟨2, ![16, 16384]⟩
abbrev Parts : Shape := ⟨2, ![64, 16384]⟩

/-- Entry `n` of a list of length `k` (`n` taken modulo `k`, so that the index is always one). -/
def at1 {k : ℕ} {α : Type} (hk : 0 < k) (A : (⟨1, ![k]⟩ : Shape).Idx → α) (n : ℕ) : α :=
  A (Shape.ofLane (d := ![k]) ⟨n % k, Nat.mod_lt _ hk⟩)

/-- Entry `n` of an edge list. -/
abbrev edge {α : Type} (A : Edge.Idx → α) (n : ℕ) : α := at1 (by decide : 0 < 2686976) A n

/-- Sixteen consecutive edges from edge `e` on. -/
def lanes {α : Type} (A : Edge.Idx → α) (e : ℕ) : Lane.Idx → α := fun x => edge A (e + (x 0).val)

/-- The chunk of 8192 consecutive edges from edge `e` on. -/
def chunk {α : Type} (A : Edge.Idx → α) (e : ℕ) : Chunk.Idx → α := fun x => edge A (e + (x 0).val)

/-- Row `r` of an array of sixteen rows. -/
def rowOf {α : Type} (X : Rows.Idx → α) (r : ℕ) : Row.Idx → α :=
  fun j => X fun | 0 => ⟨r % 16, Nat.mod_lt _ (by decide)⟩ | 1 => j 0

/-- Every lane of an index vector names an element of a row. -/
def Named (s : IVec Lane 32) : Prop := ∀ (a : Fin 1) (x : Lane.Idx), ((![s] : Fin 1 → IVec Lane 32) a x).toNat < Row.size a

instance (s : IVec Lane 32) : Decidable (Named s) := by unfold Named; infer_instance

/-- One step on sixteen edges: `acc[d] += X[s] * v`, lane by lane. (Out-of-range indices never occur; the step is then idle.) -/
def grp (X : Vec F Row .f32) (s d : IVec Lane 32) (v : Vec F Lane .f32) (acc : Vec F Row .f32) : Vec F Row .f32 :=
  if h : Named s ∧ Named d then storeIdx acc ![d] (mulf (loadIdx X ![s] h.1) v) (fun _ => 1#1) true h.2 else acc

/-- The accumulator after `n` steps over the edges from edge `e` on, from `init`. -/
def accN (X : Vec F Row .f32) (S D : Edge.Idx → BitVec 32) (V : Vec F Edge .f32) (init : Vec F Row .f32) (e : ℕ) : ℕ → Vec F Row .f32
  | 0 => init
  | n + 1 => grp X (lanes S (e + 16 * n)) (lanes D (e + 16 * n)) (lanes V (e + 16 * n)) (accN X S D V init e n)

/-- The row of zeros. -/
def zeroRow : Vec F Row .f32 := fun _ => Scalar.ofBits .f32 0x00000000#32

/-- The row an accumulator of split `k` starts from: the bias for split 0, zero for the others. -/
def start (B : Vec F Row .f32) (k : ℕ) : Vec F Row .f32 := if k = 0 then B else zeroRow

/-- The number of edges of a split, of steps over it. -/
abbrev splitLen : ℕ := 671744
abbrev splitSteps : ℕ := 41984

/-- Row `r` of the partial sums: row `r % 16` of `X` pushed along the edges of split `r / 16`. -/
def partialRow (X : Vec F Rows .f32) (S D : Edge.Idx → BitVec 32) (V : Vec F Edge .f32) (B : Vec F Row .f32) (r : ℕ) : Vec F Row .f32 :=
  accN (rowOf X r) S D V (start B (r / 16)) (splitLen * (r / 16)) splitSteps

/-- All 64 rows of partial sums. -/
def partials (X : Vec F Rows .f32) (S D : Edge.Idx → BitVec 32) (V : Vec F Edge .f32) (B : Vec F Row .f32) : Vec F Parts .f32 :=
  fun i => partialRow X S D V B (i 0).val (Shape.ofLane (d := ![16384]) (i 1))

/-- Every entry of an edge list names a node. -/
def InRange (A : Edge.Idx → BitVec 32) : Prop := ∀ i, (A i).toNat < 16384

theorem named_lanes {A : Edge.Idx → BitVec 32} (h : InRange A) (e : ℕ) : Named (lanes A e) := by
  intro a x
  obtain rfl : a = 0 := Subsingleton.elim _ _
  exact h _

end Cert.Proof.Model

end
-- ==== Proof.Pre.lean ====
/-
  The precondition read back: where the predicate on the arguments is 1, every entry of the index array names a node.
-/
module

public import proofs.«01_k».proof.Proof.Gen.Pre_in_range
public import Idealize.ShloMosaic.Lib.ReduceAll

@[expose] public section

noncomputable section

namespace Cert.Proof

open Idealize.ShloMosaic Cert.Pre_in_range

/-- The one index of a scalar. -/
instance : Subsingleton S_.Idx := ⟨fun _ _ => funext fun a => a.elim0⟩

theorem bool_word {b : Bool} : BitVec.ofBool b = 1#1 ↔ b = true := by cases b <;> decide

/-- A signed word that is at least 0 and less than 16384 is less than 16384 read unsigned. -/
theorem word_range (v : BitVec 32) (h : IntOp.andi (IntOp.cmpi .sge v 0#32) (IntOp.cmpi .slt v 16384#32) = 1#1) : v.toNat < 16384 := by
  have e : (BitVec.sle 0#32 v && BitVec.slt v 16384#32) = true := by
    refine bool_word.mp (Eq.trans ?_ h)
    simp only [IntOp.andi, IntOp.cmpi]
    cases BitVec.sle 0#32 v <;> cases BitVec.slt v 16384#32 <;> rfl
  simp only [Bool.and_eq_true, BitVec.sle_eq_decide, BitVec.slt_eq_decide, decide_eq_true_eq, BitVec.toInt_eq_toNat_cond, BitVec.toNat_ofNat,
    Nat.reducePow, Nat.reduceMod] at e
  have := v.isLt
  omega

variable {F : FTy → Type} [FloatOps F]

/-- Where the predicate holds, every entry of the index array is less than 16384. -/
theorem range_of_pre (x : FVec F S16x16384x1 .f32) (a : IVec S2x2684354 32) (v : FVec F S2684354 .f32) (b : FVec F S16384x1 .f32)
    (h : Cert.Pre_in_range.fn x a v b = fun _ => 1#1) (i : S2x2684354.Idx) : (a i).toNat < 16384 := by
  have e := Host.reduce_andi_all _ _ _ _ _ (congrFun h (fun k => k.elim0)) i
  exact word_range _ e

end Cert.Proof

end
-- ==== Proof.PlaceIdeal.lean ====
/-
  Where a tile works: its number, and from it the rows of node values it reads, the edges of its split and the two rows of
  partial sums it writes, as the offsets the program computes.
-/
module
public import proofs.«01_k».proof.Defs
public import proofs.«01_k».proof.Proof.Gen.KernelIdeal
public import proofs.«01_k».proof.Proof.Gen.KernelIdeal.Skeleton
public import proofs.«01_k».proof.Proof.Model
@[expose] public section
noncomputable section
namespace Cert.Proof.KernelIdeal
open Cert.KernelIdeal Cert.KernelIdeal.Gen Cert.Proof.Model
open Idealize.ShloMosaic

/-- The tile's number, and the coordinates as a pair. -/
abbrev wid (L : grid0.Coords) : ℕ := 16 * (L 0).val + (L 1).val

def coordsV (c : Fin 2) (s : Fin 16) : grid0.Coords :=
  fun | 0 => c | 1 => s | ⟨_ + 2, h⟩ => absurd h (Nat.not_lt.2 (Nat.le_add_left _ _))

/-- Every pair of coordinates is of that form. -/
theorem coords_eq (L : grid0.Coords) : ∃ (c : Fin 2) (s : Fin 16), L = coordsV c s :=
  ⟨L 0, L 1, by funext a; match a with | 0 => rfl | 1 => rfl⟩

set_option maxRecDepth 100000 in
/-- The first edge of a chunk. -/
theorem off4_val (L : grid0.Coords) (k : Fin k0_t2_loop.trips) : k0_off4 L k 0 = 671744 * (wid L / 8) + 8192 * k.val := by
  obtain ⟨c, s, rfl⟩ := coords_eq L
  have h : ∀ (c : Fin 2) (s : Fin 16) (k : Fin k0_t2_loop.trips), k0_off4 (coordsV c s) k 0 = 671744 * (wid (coordsV c s) / 8) + 8192 * k.val := by decide +kernel
  exact h c s k

/-- The rows of node values that are read. -/
theorem off1_eq (L : grid0.Coords) : k0_off1 L = ![2 * wid L % 16, 0] := by
  obtain ⟨c, s, rfl⟩ := coords_eq L
  have h : ∀ (c : Fin 2) (s : Fin 16), k0_off1 (coordsV c s) = ![2 * wid (coordsV c s) % 16, 0] := by decide +kernel
  exact h c s
theorem off2_eq (L : grid0.Coords) : k0_off2 L = ![(2 * wid L + 1) % 16, 0] := by
  obtain ⟨c, s, rfl⟩ := coords_eq L
  have h : ∀ (c : Fin 2) (s : Fin 16), k0_off2 (coordsV c s) = ![(2 * wid (coordsV c s) + 1) % 16, 0] := by decide +kernel
  exact h c s
/-- The rows of partial sums that are written. -/
theorem off6_eq (L : grid0.Coords) : k0_off6 L = ![2 * wid L, 0] := by
  obtain ⟨c, s, rfl⟩ := coords_eq L
  have h : ∀ (c : Fin 2) (s : Fin 16), k0_off6 (coordsV c s) = ![2 * wid (coordsV c s), 0] := by decide +kernel
  exact h c s
theorem off7_eq (L : grid0.Coords) : k0_off7 L = ![2 * wid L + 1, 0] := by
  obtain ⟨c, s, rfl⟩ := coords_eq L
  have h : ∀ (c : Fin 2) (s : Fin 16), k0_off7 (coordsV c s) = ![2 * wid (coordsV c s) + 1, 0] := by decide +kernel
  exact h c s
/-- The accumulators are zeroed on every split but the first. -/
theorem cond2_iff (L : grid0.Coords) : k0_cond2 L = 1#1 ↔ wid L / 8 ≠ 0 := by
  obtain ⟨c, s, rfl⟩ := coords_eq L
  have h : ∀ (c : Fin 2) (s : Fin 16), k0_cond2 (coordsV c s) = 1#1 ↔ wid (coordsV c s) / 8 ≠ 0 := by decide +kernel
  exact h c s
end Cert.Proof.KernelIdeal
end
-- ==== Proof.StepIdeal.lean ====
/-
  One step of a tile: sixteen edges' sources, targets and weights loaded, the values gathered, the products added into the
  two accumulators. Then the loop of 512 such steps over a chunk, and the loop that zeroes the accumulators.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.PlaceIdeal

@[expose] public section

noncomputable section

namespace Cert.Proof.KernelIdeal

open Cert.KernelIdeal Cert.KernelIdeal.Gen Cert.Proof.Model

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev Bodies [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × UP × Counters

local notation "𝕄" => MT nD τ sig (HIx 1) (Elt F) ℕ UU ℕ

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

abbrev mX0 : Memref sig .scVector .vmem S16384 .f32 := Memref.whole cc0_scratch0
abbrev mX1 : Memref sig .scVector .vmem S16384 .f32 := Memref.whole cc0_scratch1
abbrev mA0 : Memref sig .scVector .vmem S16384 .f32 := Memref.whole cc0_scratch2
abbrev mA1 : Memref sig .scVector .vmem S16384 .f32 := Memref.whole cc0_scratch3
abbrev mSb : Memref sig .scVector .vmem S8192 .i32 := Memref.whole cc0_scratch4
abbrev mDb : Memref sig .scVector .vmem S8192 .i32 := Memref.whole cc0_scratch5
abbrev mVb : Memref sig .scVector .vmem S8192 .f32 := Memref.whole cc0_scratch6
abbrev mXs : Memref sig .scVector .hbm S16x16384 .f32 := Memref.whole main_v0_scv
abbrev mSr : Memref sig .scVector .hbm S2686976 .i32 := Memref.whole main_v3_scv
abbrev mDs : Memref sig .scVector .hbm S2686976 .i32 := Memref.whole main_v6_scv
abbrev mVl : Memref sig .scVector .hbm S2686976 .f32 := Memref.whole main_v7_scv
abbrev mBi : Memref sig .scVector .hbm S16384 .f32 := Memref.whole main_v8_scv
abbrev mOu : Memref sig .scVector .hbm S64x16384 .f32 := Memref.whole main_v9_scv

/-- The six vectors a step touches: the two rows of node values, the two accumulators, the chunk's three lists. -/
def stepHeld (X0 X1 A0 A1 : Vec F S16384 .f32) (s t : Vec F S8192 .i32) (v : Vec F S8192 .f32) : sProp 𝕄 :=
  iprop(((mX0).view.loc (thr d L) ↦{fullShare} X0) ∗ ((mX1).view.loc (thr d L) ↦{fullShare} X1)
    ∗ ((mA0).view.loc (thr d L) ↦{fullShare} A0) ∗ ((mA1).view.loc (thr d L) ↦{fullShare} A1)
    ∗ ((mSb).view.loc (thr d L) ↦{fullShare} s) ∗ ((mDb).view.loc (thr d L) ↦{fullShare} t) ∗ ((mVb).view.loc (thr d L) ↦{fullShare} v))

/-- Lanes `16 k …` of a chunk. -/
def sub {α : Type} (A : Chunk.Idx → α) (k : ℕ) : Lane.Idx → α := fun x => at1 (by decide) A (16 * k + (x 0).val)

/-- The lanes a step loads off a chunk's buffer. -/
theorem read_sub {κ : Kind} {sp : Space} {e : EltTy} (w : View sig κ sp S8192 e) (f : w.ty.Contents (Elt F)) (k : Fin k0_t3_loop.trips) :
    w.readAt (Elt F) (Rect.unit (s := S8192) (k0_off5 k) S16.size (k0_off5_inb k)).toLoadRect f = sub (w.read (Elt F) f) k.val := by
  funext x
  have hk : k.val < 512 := lt_of_lt_of_le k.isLt k0_t3_abs.2.1
  have hx : (x 0).val < 16 := (x 0).isLt
  refine congrArg (w.read (Elt F) f) (funext fun a => Fin.ext ?_)
  obtain rfl : a = 0 := Subsingleton.elim _ _
  have h0 : k0_off5 k 0 = 16 * k.val := congrFun (k0_off5_eq k) 0
  show k0_off5 k 0 + 1 * (x 0).val = (16 * k.val + (x 0).val) % 8192
  rw [h0, Nat.mod_eq_of_lt (by omega)]; omega

theorem chk_sub {f : Chunk.Idx → BitVec 32} (h : ∀ i, (f i).toNat < 16384) (k : ℕ) : Named (sub f k) := by
  intro a x
  obtain rfl : a = 0 := Subsingleton.elim _ _
  exact h _

theorem set_A0 : ((mA0).access (.whole S16384)).set = Finset.univ :=
  Memref.set_access_whole (cc0_scratch2 : Ref sig .scVector)
theorem set_A1 : ((mA1).access (.whole S16384)).set = Finset.univ :=
  Memref.set_access_whole (cc0_scratch3 : Ref sig .scVector)

theorem grp_of (X A : Vec F Row .f32) {s t : IVec Lane 32} (v : Vec F Lane .f32) (hs : Named s) (ht : Named t) :
    grp X s t v A = storeIdx A ![t] (mulf (loadIdx X ![s] hs) v) (fun _ => 1#1) true ht := dif_pos ⟨hs, ht⟩

/-- One indexed add into the accumulator is a group of the model. -/
theorem pts_A0 (X A : Vec F S16384 .f32) (s t : Vec F S16 .i32) (v : Vec F S16 .f32) (hs : Named s) (ht : Named t) :
    (((mA0).access (.whole S16384)).loc (thr d L) ↦[((mA0).access (.whole S16384)).set]{fullShare}
        ((mA0).access (.whole S16384)).write (Elt F) A
          (storeIdx (((mA0).access (.whole S16384)).read (Elt F) A) ![t]
            (k0_pay2 v (loadIdx (((mX0).access (.whole S16384)).read (Elt F) X) ![s] hs)) (fun _ => 1#1) true ht) Finset.univ : sProp 𝕄)
      = (mA0).view.loc (thr d L) ↦{fullShare} (grp X s t v A : Vec F S16384 .f32) := by
  rw [set_A0]
  refine congrArg (fun g : Vec F S16384 .f32 => ((mA0).view.loc (thr d L) ↦{fullShare} g : sProp 𝕄)) ?_
  refine (Memref.write_access_whole_univ (Elt F) (cc0_scratch2 : Ref sig .scVector) A _).trans (Eq.trans ?_ (grp_of X A v hs ht).symm)
  have key : ∀ A' X' : Vec F Row .f32, A' = A → X' = X → storeIdx A' ![t] (mulf (loadIdx X' ![s] hs) v) (fun _ => 1#1) true ht
      = storeIdx A ![t] (mulf (loadIdx X ![s] hs) v) (fun _ => 1#1) true ht := by rintro _ _ rfl rfl; rfl
  exact key _ _ (Memref.read_access_whole (Elt F) (cc0_scratch2 : Ref sig .scVector) A) (Memref.read_access_whole (Elt F) (cc0_scratch0 : Ref sig .scVector) X)

/-- One indexed add into the accumulator is a group of the model. -/
theorem pts_A1 (X A : Vec F S16384 .f32) (s t : Vec F S16 .i32) (v : Vec F S16 .f32) (hs : Named s) (ht : Named t) :
    (((mA1).access (.whole S16384)).loc (thr d L) ↦[((mA1).access (.whole S16384)).set]{fullShare}
        ((mA1).access (.whole S16384)).write (Elt F) A
          (storeIdx (((mA1).access (.whole S16384)).read (Elt F) A) ![t]
            (k0_pay3 v (loadIdx (((mX1).access (.whole S16384)).read (Elt F) X) ![s] hs)) (fun _ => 1#1) true ht) Finset.univ : sProp 𝕄)
      = (mA1).view.loc (thr d L) ↦{fullShare} (grp X s t v A : Vec F S16384 .f32) := by
  rw [set_A1]
  refine congrArg (fun g : Vec F S16384 .f32 => ((mA1).view.loc (thr d L) ↦{fullShare} g : sProp 𝕄)) ?_
  refine (Memref.write_access_whole_univ (Elt F) (cc0_scratch3 : Ref sig .scVector) A _).trans (Eq.trans ?_ (grp_of X A v hs ht).symm)
  have key : ∀ A' X' : Vec F Row .f32, A' = A → X' = X → storeIdx A' ![t] (mulf (loadIdx X' ![s] hs) v) (fun _ => 1#1) true ht
      = storeIdx A ![t] (mulf (loadIdx X ![s] hs) v) (fun _ => 1#1) true ht := by rintro _ _ rfl rfl; rfl
  exact key _ _ (Memref.read_access_whole (Elt F) (cc0_scratch3 : Ref sig .scVector) A) (Memref.read_access_whole (Elt F) (cc0_scratch1 : Ref sig .scVector) X)

/-- One step, run. -/
theorem step_wp (X0 X1 A0 A1 : Vec F S16384 .f32) (s t : Vec F S8192 .i32) (v : Vec F S8192 .f32) (v28 v29 : BitVec 32)
    (hs : ∀ i, (s i).toNat < 16384) (ht : ∀ i, (t i).toNat < 16384) (k : Fin k0_t3_loop.trips) :
    stepHeld d L X0 X1 A0 A1 s t v
      ⊢ wp frame (wpE (defs₀ (F := F)) 𝒱₀ (thr d L) none) Set.univ
          (k0_t3_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29 k ())
          fun _ => stepHeld d L X0 X1 (grp X0 (sub s k.val) (sub t k.val) (sub v k.val) A0) (grp X1 (sub s k.val) (sub t k.val) (sub v k.val) A1) s t v := by
  have es : View.readAt (Elt F) (mSb).view (Rect.unit (s := S8192) (k0_off5 k) S16.size (k0_off5_inb k)).toLoadRect s = sub s k.val := by
    rw [read_sub]; simp only [Memref.view_whole, View.read_whole]
  have et : View.readAt (Elt F) (mDb).view (Rect.unit (s := S8192) (k0_off5 k) S16.size (k0_off5_inb k)).toLoadRect t = sub t k.val := by
    rw [read_sub]; simp only [Memref.view_whole, View.read_whole]
  have ev : View.readAt (Elt F) (mVb).view (Rect.unit (s := S8192) (k0_off5 k) S16.size (k0_off5_inb k)).toLoadRect v = sub v k.val := by
    rw [read_sub]; simp only [Memref.view_whole, View.read_whole]
  have c1 : k0_chk1 (sub s k.val) := ⟨chk_sub hs _, chk_sub hs _⟩
  have c2 : k0_chk2 (sub t k.val) := ⟨chk_sub ht _, chk_sub ht _⟩
  unfold stepHeld k0_t3_body
  iintro ⟨HX0, HX1, HA0, HA1, Hs, Ht, Hv⟩
  sl_exec
  iapply (SparseCore.wp_vectorLoadIdx 𝒱₀ (thr d L) none Set.univ (base := mX0) (S := Finset.univ) (Finset.subset_univ _)) $$ HX0
  iintro HX0
  iapply (SparseCore.wp_vectorLoadIdx 𝒱₀ (thr d L) none Set.univ (base := mX1) (S := Finset.univ) (Finset.subset_univ _)) $$ HX1
  iintro HX1
  ihave HA0 := (Entails.of_eq (show ((mA0).view.loc (thr d L) ↦{fullShare} A0 : sProp 𝕄)
      = ((mA0).access (.whole S16384)).loc (thr d L) ↦[((mA0).access (.whole S16384)).set]{fullShare} A0 by rw [set_A0])) $$ HA0
  ihave HA1 := (Entails.of_eq (show ((mA1).view.loc (thr d L) ↦{fullShare} A1 : sProp 𝕄)
      = ((mA1).access (.whole S16384)).loc (thr d L) ↦[((mA1).access (.whole S16384)).set]{fullShare} A1 by rw [set_A1])) $$ HA1
  iapply (SparseCore.wp_vectorStoreIdx 𝒱₀ (thr d L) none Set.univ (base := mA0)) $$ HA0
  iintro HA0
  iapply (SparseCore.wp_vectorStoreIdx 𝒱₀ (thr d L) none Set.univ (base := mA1)) $$ HA1
  iintro HA1
  sl_step
  isplitl [HX0]; · iexact HX0
  isplitl [HX1]; · iexact HX1
  isplitl [HA0]; · iapply (Entails.of_eq (pts_A0 d L X0 A0 (sub s k.val) (sub t k.val) (sub v k.val) (chk_sub hs _) (chk_sub ht _))) $$ HA0
  isplitl [HA1]; · iapply (Entails.of_eq (pts_A1 d L X1 A1 (sub s k.val) (sub t k.val) (sub v k.val) (chk_sub hs _) (chk_sub ht _))) $$ HA1
  isplitl [Hs]; · iexact Hs
  isplitl [Ht] <;> iassumption

/-- The accumulator after `k` steps over a chunk held in the three buffers. -/
def chunkN (X : Vec F Row .f32) (s t : IVec Chunk 32) (v : Vec F Chunk .f32) (A : Vec F Row .f32) : ℕ → Vec F Row .f32
  | 0 => A
  | k + 1 => grp X (sub s k) (sub t k) (sub v k) (chunkN X s t v A k)

/-- The loop over a chunk: 512 steps. -/
theorem steps_wp (X0 X1 A0 A1 : Vec F S16384 .f32) (s t : Vec F S8192 .i32) (v : Vec F S8192 .f32) (v28 v29 : BitVec 32)
    (hs : ∀ i, (s i).toNat < 16384) (ht : ∀ i, (t i).toNat < 16384) :
    stepHeld d L X0 X1 A0 A1 s t v
      ⊢ wp frame (wpE (defs₀ (F := F)) 𝒱₀ (thr d L) none) Set.univ
          (Scf.Loop.for k0_t3_loop k0_t3_ok ⟨⟩ (k0_t3_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29))
          fun _ => stepHeld d L X0 X1 (chunkN X0 s t v A0 512) (chunkN X1 s t v A1 512) s t v := by
  iintro HI
  sl_for (fun k (_ : Unit) => stepHeld d L X0 X1 (chunkN X0 s t v A0 k) (chunkN X1 s t v A1 k) s t v) $$ [HI]
  case region =>
    intro k _
    exact step_wp d L X0 X1 _ _ s t v v28 v29 hs ht k
  isplitl [HI]; · iexact HI
  iintro %_ HI
  iexact HI

/-- The steps over a chunk continue the steps over the edges before it. -/
theorem chunkN_eq (X : Vec F Row .f32) (S D : Edge.Idx → BitVec 32) (V : Vec F Edge .f32) (init : Vec F Row .f32) (e n k : ℕ) (hk : k ≤ 512) :
    chunkN X (chunk S (e + 16 * n)) (chunk D (e + 16 * n)) (chunk V (e + 16 * n)) (accN X S D V init e n) k = accN X S D V init e (n + k) := by
  induction k with
  | zero => rfl
  | succ k ih =>
    have hl : ∀ {α : Type} (A : Edge.Idx → α), sub (chunk A (e + 16 * n)) k = lanes A (e + 16 * (n + k)) := by
      intro α A; funext x
      have hx : (x 0).val < 16 := (x 0).isLt
      show edge A (e + 16 * n + (16 * k + (x 0).val) % 8192) = edge A (e + 16 * (n + k) + (x 0).val)
      rw [Nat.mod_eq_of_lt (by omega)]; congr 1; omega
    show grp X (sub (chunk S (e + 16 * n)) k) _ _ (chunkN X _ _ _ _ k) = grp X (lanes S (e + 16 * (n + k))) (lanes D (e + 16 * (n + k))) (lanes V (e + 16 * (n + k))) (accN X S D V init e (n + k))
    rw [ih (by omega), hl, hl, hl]

/-- A row whose first `16 k` entries have been zeroed. -/
def zeroed (A : Vec F Row .f32) (k : ℕ) : Vec F Row .f32 := fun x => if (x 0).val < 16 * k then Scalar.ofBits .f32 0x00000000#32 else A x

/-- Sixteen zeros stored at entry `16 k`. -/
theorem read_zero {κ : Kind} {sp : Space} (w : View sig κ sp S16384 .f32) (f : w.ty.Contents (Elt F)) (k : Fin k0_t1_loop.trips)
    (inb : ∀ a, k0_off3 k a + S16.size a ≤ S16384.size a) :
    w.read (Elt F) (w.writes (Elt F) f [⟨Rect.unit (s := S16384) (k0_off3 k) S16.size inb, k0_pay1 (F := F)⟩])
      = fun x => if 16 * k.val ≤ (x 0).val ∧ (x 0).val < 16 * k.val + 16 then Scalar.ofBits .f32 0x00000000#32 else w.read (Elt F) f x := by
  have h0 : k0_off3 k 0 = 16 * k.val := congrFun (k0_off3_eq k) 0
  funext y
  have hm : y ∈ (Rect.unit (s := S16384) (k0_off3 k) S16.size inb).set ↔ (16 * k.val ≤ (y 0).val ∧ (y 0).val < 16 * k.val + 16) := by
    rw [Rect.mem_set_unit]
    constructor
    · intro h; have := h 0; rw [h0] at this; exact this
    · intro h a; obtain rfl : a = 0 := Subsingleton.elim _ _; rw [h0]; exact h
  by_cases hy : y ∈ (Rect.unit (s := S16384) (k0_off3 k) S16.size inb).set
  · rw [if_pos (hm.mp hy)]
    obtain ⟨x, rfl⟩ := LoadRect.exists_idx_of_mem (Rect.toLoadRect _) hy
    exact View.read_writes_cons_emb w f _ _ [] x
  · rw [if_neg (fun h => hy (hm.mpr h))]
    exact View.read_writes_cons_miss w f _ [] y hy

theorem zeroed_succ (A : Vec F Row .f32) (k : ℕ) :
    (fun x => if 16 * k ≤ (x 0).val ∧ (x 0).val < 16 * k + 16 then Scalar.ofBits .f32 0x00000000#32 else zeroed A k x) = zeroed A (k + 1) := by
  funext x
  unfold zeroed
  by_cases h : (x 0).val < 16 * k
  · rw [if_pos h, if_pos (show (x 0).val < 16 * (k + 1) by omega), ite_self]
  · rw [if_neg h]
    by_cases h' : (x 0).val < 16 * (k + 1)
    · rw [if_pos h', if_pos ⟨by omega, by omega⟩]
    · rw [if_neg h', if_neg (by omega)]

theorem zeroed_zero (A : Vec F Row .f32) : zeroed A 0 = A := by
  funext x; unfold zeroed; rw [if_neg (by omega)]

theorem zeroed_all (A : Vec F Row .f32) : zeroed A 1024 = zeroRow := by
  funext x
  have : (x 0).val < 16384 := (x 0).isLt
  unfold zeroed zeroRow; rw [if_pos (by omega)]

/-- The zeroing loop's trip. -/
theorem zero_wp (A0 A1 : Vec F S16384 .f32) (v28 v29 : BitVec 32) (h2 : k0_cond2 L = 1#1) (k : Fin (k0_t1_loop).trips) :
    iprop(((mA0).view.loc (thr d L) ↦{fullShare} zeroed A0 k.val) ∗ ((mA1).view.loc (thr d L) ↦{fullShare} zeroed A1 k.val))
      ⊢ wp frame (wpE (defs₀ (F := F)) 𝒱₀ (thr d L) none) Set.univ
          (k0_t1_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29 h2 k ())
          fun _ => iprop(((mA0).view.loc (thr d L) ↦{fullShare} zeroed A0 (k.val + 1)) ∗ ((mA1).view.loc (thr d L) ↦{fullShare} zeroed A1 (k.val + 1)) : sProp 𝕄) := by
  unfold k0_t1_body
  iintro ⟨HA0, HA1⟩
  sl_exec
  sl_step
  have e0 := read_zero (F := F) (mA0).view (zeroed A0 k.val) k (k0_off3_inb L k h2)
  have e1 := read_zero (F := F) (mA1).view (zeroed A1 k.val) k (k0_off3_inb L k h2)
  simp only [Memref.view_whole, View.read_whole] at e0 e1
  isplitl [HA0]
  · iapply (Entails.of_eq (congrArg (fun g : Vec F S16384 .f32 => ((mA0).view.loc (thr d L) ↦{fullShare} g : sProp 𝕄)) (e0.trans (zeroed_succ A0 k.val)))) $$ HA0
  · iapply (Entails.of_eq (congrArg (fun g : Vec F S16384 .f32 => ((mA1).view.loc (thr d L) ↦{fullShare} g : sProp 𝕄)) (e1.trans (zeroed_succ A1 k.val)))) $$ HA1

/-- The zeroing loop. -/
theorem zeros_wp (A0 A1 : Vec F S16384 .f32) (v28 v29 : BitVec 32) (h2 : k0_cond2 L = 1#1) :
    iprop(((mA0).view.loc (thr d L) ↦{fullShare} A0) ∗ ((mA1).view.loc (thr d L) ↦{fullShare} A1))
      ⊢ wp frame (wpE (defs₀ (F := F)) 𝒱₀ (thr d L) none) Set.univ
          (Scf.Loop.for k0_t1_loop (k0_t1_ok L h2) ⟨⟩ (k0_t1_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29 h2))
          fun _ => iprop(((mA0).view.loc (thr d L) ↦{fullShare} (zeroRow : Vec F S16384 .f32)) ∗ ((mA1).view.loc (thr d L) ↦{fullShare} (zeroRow : Vec F S16384 .f32)) : sProp 𝕄) := by
  iintro HI
  sl_for (fun k (_ : Unit) => iprop(((mA0).view.loc (thr d L) ↦{fullShare} zeroed A0 k) ∗ ((mA1).view.loc (thr d L) ↦{fullShare} zeroed A1 k) : sProp 𝕄)) $$ [HI]
  case region =>
    intro k _
    exact zero_wp d L A0 A1 v28 v29 h2 k
  rw [zeroed_zero, zeroed_zero]
  isplitl [HI]; · iexact HI
  iintro %_ HI
  rw [show Scf.trips k0_t1_loop.lb k0_t1_loop.ub k0_t1_loop.st = 1024 from (by decide +kernel : k0_t1_loop.trips = 1024), zeroed_all, zeroed_all]
  iexact HI

end Tile

end Cert.Proof.KernelIdeal

end
-- ==== Proof.TileIdeal.lean ====
/-
  A tile's main loop: the 82 chunks of its split, each copied in and then stepped through.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.StepIdeal

@[expose] public section

noncomputable section

namespace Cert.Proof.KernelIdeal

open Cert.KernelIdeal Cert.KernelIdeal.Gen Cert.Proof.Model

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

/-- A piece of a program run by its own triple, what it leaves handed to the rest. -/
theorem wp_piece {α β : Type} {P : sProp 𝕄} {R : α → sProp 𝕄} {Q : β → sProp 𝕄} {p : Prog (TpuEff nD τ sig (Elt F) Λ₀ (thr d L).2) α}
    {k : α → Prog (TpuEff nD τ sig (Elt F) Λ₀ (thr d L).2) β} (h : P ⊢ wp frame (wpE (defs₀ (F := F)) 𝒱₀ (thr d L) none) Set.univ p R) :
    iprop(P ∗ (∀ a, R a -∗ wp frame (wpE (defs₀ (F := F)) 𝒱₀ (thr d L) none) Set.univ (k a) Q))
      ⊢ wp frame (wpE (defs₀ (F := F)) 𝒱₀ (thr d L) none) Set.univ (p >>= k) Q := by
  rw [wp_bind]
  exact (sep_mono_left h).trans (wp_wand_r frame _ Set.univ)

/-- The chunk a trip's copies bring. -/
theorem read_chunk {κ : Kind} {sp : Space} {e : EltTy} (w : View sig κ sp S2686976 e) (f : w.ty.Contents (Elt F)) (k : Fin k0_t2_loop.trips) :
    (w.slice (Rect.unit (s := S2686976) (k0_off4 L k) S8192.size (k0_off4_inb L k))).read (Elt F) f
      = chunk (w.read (Elt F) f) (671744 * (wid L / 8) + 8192 * k.val) := by
  funext x
  have hx : (x 0).val < 8192 := (x 0).isLt
  have hb : k0_off4 L k 0 + 8192 ≤ 2686976 := k0_off4_inb L k 0
  rw [off4_val] at hb
  refine congrArg (w.read (Elt F) f) (funext fun a => Fin.ext ?_)
  obtain rfl : a = 0 := Subsingleton.elim _ _
  show k0_off4 L k 0 + 1 * (x 0).val = (671744 * (wid L / 8) + 8192 * k.val + (x 0).val) % 2686976
  rw [off4_val, Nat.mod_eq_of_lt (by omega)]; omega

/-- What a trip over a chunk uses beside the vectors: the three lists in the memory, the counters of its copies, what the tile owes. -/
def listsHeld (S D : Vec F S2686976 .i32) (V : Vec F S2686976 .f32) (q : PosShare TreeShare) (O : CellTallies nD τ sig (HIx 1)) (W : Waits sig (HIx 1)) : sProp 𝕄 :=
  iprop(Transfers.MayWaits (thr d L) (default : HIx 1) O
    ∗ ((mSr).view.loc (thr d L) ↦{q} S) ∗ ((mDs).view.loc (thr d L) ↦{q} D) ∗ ((mVl).view.loc (thr d L) ↦{q} V)
    ∗ semVal ((thr d L), SemLoc.dma cc0_scoped4.sem) 0 ∗ semVal ((thr d L), SemLoc.dma cc0_scoped5.sem) 0 ∗ semVal ((thr d L), SemLoc.dma cc0_scoped6.sem) 0
    ∗ (∃ W', ⌜∀ p ∈ W', p ∈ W ∨ p.2 = none⌝ ∗ owes (thr d L) O W'))

/-- One chunk: three copies in, then the 512 steps. -/
theorem chunk_wp (X0 X1 A0 A1 : Vec F S16384 .f32) (S D : Vec F S2686976 .i32) (V : Vec F S2686976 .f32) (q : PosShare TreeShare) (O : CellTallies nD τ sig (HIx 1)) (W : Waits sig (HIx 1))
    (s t : Vec F S8192 .i32) (v : Vec F S8192 .f32) (v28 v29 : BitVec 32) (k : Fin k0_t2_loop.trips)
    (hS : InRange S) (hD : InRange D) :
    iprop(stepHeld d L X0 X1 A0 A1 s t v ∗ listsHeld d L S D V q O W)
      ⊢ wp frame (wpE (defs₀ (F := F)) 𝒱₀ (thr d L) none) Set.univ
          (k0_t2_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29 k ())
          fun _ => iprop(stepHeld d L X0 X1
              (chunkN X0 (chunk S (671744 * (wid L / 8) + 8192 * k.val)) (chunk D (671744 * (wid L / 8) + 8192 * k.val)) (chunk V (671744 * (wid L / 8) + 8192 * k.val)) A0 512)
              (chunkN X1 (chunk S (671744 * (wid L / 8) + 8192 * k.val)) (chunk D (671744 * (wid L / 8) + 8192 * k.val)) (chunk V (671744 * (wid L / 8) + 8192 * k.val)) A1 512)
              (chunk S (671744 * (wid L / 8) + 8192 * k.val)) (chunk D (671744 * (wid L / 8) + 8192 * k.val)) (chunk V (671744 * (wid L / 8) + 8192 * k.val))
            ∗ listsHeld d L S D V q O W) := by
  have es := read_chunk (F := F) L (mSr).view S k
  have ed := read_chunk (F := F) L (mDs).view D k
  have ev := read_chunk (F := F) L (mVl).view V k
  simp only [Memref.view_whole, View.read_whole] at es ed ev
  unfold stepHeld listsHeld k0_t2_body
  iintro ⟨⟨HX0, HX1, HA0, HA1, Hs, Ht, Hv⟩, Hmw, HS, HD, HV, H4, H5, H6, %W', %hW', HO⟩
  sl_exec (disch := exact View.amount_pos _ _ (show 0 < S8192.numel by decide))

  ihave Hs := (Entails.of_eq (congrArg (fun g : Vec F S8192 .i32 => ((mSb).view.loc (thr d L) ↦{fullShare} g : sProp 𝕄))
    (show View.write (Elt F) (mSb).view s (chunk_wp.sl.dma0 L S k) Finset.univ = _ from (View.write_whole_univ _ _ _).trans es))) $$ Hs
  ihave Ht := (Entails.of_eq (congrArg (fun g : Vec F S8192 .i32 => ((mDb).view.loc (thr d L) ↦{fullShare} g : sProp 𝕄))
    (show View.write (Elt F) (mDb).view t (chunk_wp.sl.dma0_1 L D k) Finset.univ = _ from (View.write_whole_univ _ _ _).trans ed))) $$ Ht
  ihave Hv := (Entails.of_eq (congrArg (fun g : Vec F S8192 .f32 => ((mVb).view.loc (thr d L) ↦{fullShare} g : sProp 𝕄))
    (show View.write (Elt F) (mVb).view v (chunk_wp.sl.dma0_2 L V k) Finset.univ = _ from (View.write_whole_univ _ _ _).trans ev))) $$ Hv
  iapply (wp_piece (F := F) d L (steps_wp d L X0 X1 A0 A1 (chunk S (671744 * (wid L / 8) + 8192 * k.val)) (chunk D (671744 * (wid L / 8) + 8192 * k.val))
    (chunk V (671744 * (wid L / 8) + 8192 * k.val)) v28 v29 (fun _ => hS _) (fun _ => hD _)))
  unfold stepHeld
  isplitl [HX0 HX1 HA0 HA1 Hs Ht Hv]
  · isplitl [HX0]; · iexact HX0
    isplitl [HX1]; · iexact HX1
    isplitl [HA0]; · iexact HA0
    isplitl [HA1]; · iexact HA1
    isplitl [Hs]; · iexact Hs
    isplitl [Ht] <;> iassumption
  iintro %_ HI
  sl_step
  isplitl [HI]; · iexact HI
  isplitl [Hmw]; · iexact Hmw
  isplitl [HS]; · iexact HS
  isplitl [HD]; · iexact HD
  isplitl [HV]; · iexact HV
  isplitl [H4]; · iexact H4
  isplitl [H5]; · iexact H5
  isplitl [H6]; · iexact H6
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The loop over the 82 chunks of the tile's split. -/
theorem chunks_wp (X0 X1 A0 A1 : Vec F S16384 .f32) (S D : Vec F S2686976 .i32) (V : Vec F S2686976 .f32) (q : PosShare TreeShare) (O : CellTallies nD τ sig (HIx 1)) (W : Waits sig (HIx 1))
    (v28 v29 : BitVec 32) (hS : InRange S) (hD : InRange D) :
    iprop((∃ s t v, stepHeld d L X0 X1 A0 A1 s t v) ∗ listsHeld d L S D V q O W)
      ⊢ wp frame (wpE (defs₀ (F := F)) 𝒱₀ (thr d L) none) Set.univ
          (Scf.Loop.for k0_t2_loop k0_t2_ok ⟨⟩ (k0_t2_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29))
          fun _ => iprop((∃ s t v, stepHeld d L X0 X1 (accN X0 S D V A0 (671744 * (wid L / 8)) splitSteps) (accN X1 S D V A1 (671744 * (wid L / 8)) splitSteps) s t v)
            ∗ listsHeld d L S D V q O W) := by
  iintro HI
  sl_for (fun k (_ : Unit) => iprop((∃ s t v, stepHeld d L X0 X1 (accN X0 S D V A0 (671744 * (wid L / 8)) (512 * k)) (accN X1 S D V A1 (671744 * (wid L / 8)) (512 * k)) s t v)
            ∗ listsHeld d L S D V q O W)) $$ [HI]
  case region =>
    intro k _
    iintro ⟨⟨%s, %t, %v, H⟩, HL⟩
    ihave H' := (chunk_wp d L X0 X1 _ _ S D V q O W s t v v28 v29 k hS hD) $$ [H HL]
    · isplitl [H] <;> iassumption
    iapply (wp_mono frame _ _ ?_) $$ H'
    intro _
    iintro ⟨H, HL⟩
    isplitl [H]
    · iexists _, _, _
      have e : 671744 * (wid L / 8) + 8192 * k.val = 671744 * (wid L / 8) + 16 * (512 * k.val) := by omega
      rw [e, chunkN_eq _ _ _ _ _ _ _ _ le_rfl, chunkN_eq _ _ _ _ _ _ _ _ le_rfl, show 512 * k.val + 512 = 512 * (k.val + 1) by ring]
      iexact H
    · iexact HL
  isplitl [HI]; · iexact HI
  iintro %_ HI
  rw [show Scf.trips k0_t2_loop.lb k0_t2_loop.ub k0_t2_loop.st = 82 from (by decide +kernel : k0_t2_loop.trips = 82)]
  iexact HI

end Tile

end Cert.Proof.KernelIdeal

end
-- ==== Proof.BodyIdeal.lean ====
/-
  The task of one of the 32 tiles, whole: rows of node values and start of the accumulators copied in, the loop over the
  chunks, the two accumulators copied out to the tile's rows of the partial sums; every counter is back at zero at the end.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.TileIdeal

@[expose] public section

noncomputable section

namespace Cert.Proof.KernelIdeal

open Cert.KernelIdeal Cert.KernelIdeal.Gen Cert.Proof.Model

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

/-! ## What the tile owns: its counters and its scratch buffers -/

omit [FloatOps F] in
/-- Listed members of a finite set stand out of a separating product over it. -/
theorem bigSep_pull {I : Type} [DecidableEq I] (Φ : I → sProp 𝕄) (l : List I) : ∀ s : Finset I, l.Nodup → (∀ x ∈ l, x ∈ s) →
    bigSep s Φ = l.foldr (fun i P => iprop(Φ i ∗ P)) (bigSep (s \ l.toFinset) Φ) := by
  induction l with
  | nil => intro s _ _; simp
  | cons a l ih =>
    intro s hn hm
    rw [List.nodup_cons] at hn
    rw [SparseCore.bigSep_erase' (hm a List.mem_cons_self), ih (s.erase a) hn.2 fun x hx =>
      Finset.mem_erase.mpr ⟨fun e => hn.1 (e ▸ hx), hm x (List.mem_cons_of_mem _ hx)⟩]
    have e : s.erase a \ l.toFinset = s \ (a :: l).toFinset := by
      ext x; simp only [Finset.mem_sdiff, Finset.mem_erase, List.toFinset_cons, Finset.mem_insert]; tauto
    rw [e]; rfl

/-- The counters of the tile's copies, the scratch buffers. -/
def copySems : List (SemLoc sig) :=
  [.dma cc0_scoped0.sem, .dma cc0_scoped1.sem, .dma cc0_scoped2.sem, .dma cc0_scoped3.sem, .dma cc0_scoped4.sem,
    .dma cc0_scoped5.sem, .dma cc0_scoped6.sem, .dma cc0_scoped7.sem, .dma cc0_scoped8.sem]
def scratch : List (Ref sig .scVector) :=
  [cc0_scratch0, cc0_scratch1, cc0_scratch2, cc0_scratch3, cc0_scratch4, cc0_scratch5, cc0_scratch6]

def otherCells : Finset (GSem nD τ sig) := ownCells (thr d L) \ (copySems.map fun g => (thr d L, g)).toFinset
def otherRefs : Finset (DevRef τ sig) := ownRefs (τ := τ) (.scVector (cV L) (jV L)) \ (scratch.map (Proc.scVector (cV L) (jV L)).devRef).toFinset

omit [FloatOps F] in
theorem ownSems_tile : (ownSems0 (thr d L) : sProp 𝕄)
    = iprop(semVal ((thr d L), SemLoc.dma cc0_scoped0.sem) 0 ∗ semVal ((thr d L), SemLoc.dma cc0_scoped1.sem) 0 ∗ semVal ((thr d L), SemLoc.dma cc0_scoped2.sem) 0
      ∗ semVal ((thr d L), SemLoc.dma cc0_scoped3.sem) 0 ∗ semVal ((thr d L), SemLoc.dma cc0_scoped4.sem) 0 ∗ semVal ((thr d L), SemLoc.dma cc0_scoped5.sem) 0
      ∗ semVal ((thr d L), SemLoc.dma cc0_scoped6.sem) 0 ∗ semVal ((thr d L), SemLoc.dma cc0_scoped7.sem) 0 ∗ semVal ((thr d L), SemLoc.dma cc0_scoped8.sem) 0
      ∗ bigSep (otherCells d L) fun g => semVal g 0) := by
  unfold SparseCore.Cfg.ownSems0
  have key := bigSep_pull (F := F) (fun g => semVal g 0) (copySems.map fun g => (thr d L, g)) (ownCells (thr d L)) ?_ ?_
  · unfold otherCells
    rw [key]
    simp only [copySems, List.map_cons, List.map_nil, List.foldr_cons, List.foldr_nil]
  · exact List.Nodup.map (fun a b h => (Prod.mk.inj h).2) (by decide)
  · intro x hx
    obtain ⟨g, hg, rfl⟩ := List.mem_map.mp hx
    have h : ∀ g ∈ copySems, g.isScoped .scVector = true := by decide
    exact mem_ownCells.mpr ⟨rfl, h g hg⟩

omit [FloatOps F] in
theorem ownBufs_tile : (ownBufs (thr d L) : sProp 𝕄)
    = iprop((∃ f, ((d, (Proc.scVector (cV L) (jV L)).devRef cc0_scratch0) : Loc nD τ sig) ↦{fullShare} f) ∗ (∃ f, ((d, (Proc.scVector (cV L) (jV L)).devRef cc0_scratch1) : Loc nD τ sig) ↦{fullShare} f)
      ∗ (∃ f, ((d, (Proc.scVector (cV L) (jV L)).devRef cc0_scratch2) : Loc nD τ sig) ↦{fullShare} f) ∗ (∃ f, ((d, (Proc.scVector (cV L) (jV L)).devRef cc0_scratch3) : Loc nD τ sig) ↦{fullShare} f)
      ∗ (∃ f, ((d, (Proc.scVector (cV L) (jV L)).devRef cc0_scratch4) : Loc nD τ sig) ↦{fullShare} f) ∗ (∃ f, ((d, (Proc.scVector (cV L) (jV L)).devRef cc0_scratch5) : Loc nD τ sig) ↦{fullShare} f) ∗ (∃ f, ((d, (Proc.scVector (cV L) (jV L)).devRef cc0_scratch6) : Loc nD τ sig) ↦{fullShare} f)
      ∗ bigSep (otherRefs L) fun b => iprop(∃ f, ((d, b) : Loc nD τ sig) ↦{fullShare} f)) := by
  unfold SparseCore.Cfg.ownBufs
  have key := bigSep_pull (F := F) (fun b => iprop(∃ f, ((d, b) : Loc nD τ sig) ↦{fullShare} f)) (scratch.map (Proc.scVector (cV L) (jV L)).devRef)
    (ownRefs (τ := τ) (.scVector (cV L) (jV L))) ?_ ?_
  · unfold otherRefs
    refine (Eq.trans ?_ key).trans ?_; · rfl
    simp only [scratch, List.map_cons, List.map_nil, List.foldr_cons, List.foldr_nil]
  · exact List.Nodup.map (Proc.devRef_injective _) (show (scratch : List (Ref sig .scVector)).Nodup by decide)
  · intro x hx
    obtain ⟨g, hg, rfl⟩ := List.mem_map.mp hx
    simp only [scratch, List.mem_cons, List.not_mem_nil, _root_.or_false] at hg
    rcases hg with rfl | rfl | rfl | rfl | rfl | rfl | rfl <;> exact SparseCore.Cfg.mem_ownRefs_of_owner rfl

/-! ## The rows the tile reads and writes -/

/-- Out rows `2 w` and `2 w + 1`, as the program slices them. -/
abbrev oRow6 : Memref sig .scVector .hbm S16384 .f32 :=
  ((mOu).slice (Rect.unit (s := S64x16384) (k0_off6 L) S1x16384.size (k0_off6_inb L)) (fun _ => rfl)).squeeze S16384 squeezes_S1x16384_S16384
abbrev oRow7 : Memref sig .scVector .hbm S16384 .f32 :=
  ((mOu).slice (Rect.unit (s := S64x16384) (k0_off7 L) S1x16384.size (k0_off7_inb L)) (fun _ => rfl)).squeeze S16384 squeezes_S1x16384_S16384

omit [FloatOps F] in
/-- The element of an array of rows that an element of a squeezed row slice is. -/
theorem emb_row {n : ℕ} {off : Fin 2 → ℕ} (inb : ∀ a, off a + S1x16384.size a ≤ (⟨2, ![n, 16384]⟩ : Shape).size a)
    (h : S16384.numel = S1x16384.numel) (j : S16384.Idx) (a : Fin 2) :
    ((Rect.unit (s := (⟨2, ![n, 16384]⟩ : Shape)) off S1x16384.size inb).emb (Shape.reshapeEquiv h j) a).val = off a + (if a = 0 then 0 else (j 0).val) := by
  rw [show Shape.reshapeEquiv h j = Fin.cons ⟨0, Nat.one_pos⟩ j from Shape.reshapeEquiv_cons_one h j]
  match a with
  | 0 => show off 0 + 1 * 0 = _; simp
  | 1 => show off 1 + 1 * (j 0).val = _; simp

omit [FloatOps F] in
theorem read_row (f : Vec F S16x16384 .f32) (r : ℕ) {off : Fin 2 → ℕ} (ho : off = ![r % 16, 0]) (inb : ∀ a, off a + S1x16384.size a ≤ S16x16384.size a) :
    (((mXs).slice (Rect.unit (s := S16x16384) off S1x16384.size inb) (fun _ => rfl)).squeeze S16384 squeezes_S1x16384_S16384).view.read (Elt F) f = rowOf f r := by
  funext j
  refine (View.read_apply _ _).trans ((cast_eq _ _).trans (congrArg f (funext fun a => Fin.ext ?_)))
  refine (emb_row (n := 16) inb _ j a).trans ?_
  subst ho
  match a with
  | 0 => rfl
  | 1 => show 0 + (j 0).val = (j 0).val; omega

/-- What a row slice of the out array holds once a row has been written through it. -/
theorem write_row (m : Memref sig .scVector .hbm S16384 .f32) (G f : m.view.ty.Contents (Elt F)) (p : Vec F S16384 .f32)
    (h : ∀ j, G (m.view.emb j) = cast (congrArg (Elt F) m.view.elt_eq.symm) (p j)) :
    (m.view.loc (thr d L) ↦[m.view.set]{fullShare} m.view.writes (Elt F) f [⟨Rect.whole S16384, p⟩] : sProp 𝕄) = m.view.loc (thr d L) ↦[m.view.set]{fullShare} G := by
  refine pointsTo_congr fun i hi => ?_
  obtain ⟨j, -, rfl⟩ := Finset.mem_map.mp hi
  have he : (m.view.slice (Rect.whole S16384)).emb j = m.view.emb j := congrArg m.view.emb (Rect.emb_whole_apply S16384 j)
  rw [View.writes_singleton, ← he, View.write_emb_of_mem _ _ (Finset.mem_univ _), he]
  exact (h j).symm

/-! ## The words the first part computes -/

/-- The tile's split and the first of its two rows of node values, as the kernel's words. -/
def splitWord (i : grid0.Coords) : BitVec 32 :=
  let w := Scalar.addi (Scalar.muli (BitVec.ofNat 32 (i 0).val) 16#32) (BitVec.ofNat 32 (i 1).val)
  let sgn := Scalar.subi (Scalar.extui (Scalar.cmpi .sgt w 0#32)) (Scalar.extui (Scalar.cmpi .slt w 0#32))
  let sgn8 := Scalar.subi (Scalar.extui (Scalar.cmpi .sgt 8#32 0#32)) (Scalar.extui (Scalar.cmpi .slt 8#32 0#32))
  Scalar.select (Scalar.andi (Scalar.cmpi .ne sgn sgn8) (Scalar.cmpi .ne (Scalar.remsi w 8#32) 0#32)) (Scalar.subi (Scalar.divsi w 8#32) 1#32) (Scalar.divsi w 8#32)
def rowWord (i : grid0.Coords) : BitVec 32 :=
  let w := Scalar.addi (Scalar.muli (BitVec.ofNat 32 (i 0).val) 16#32) (BitVec.ofNat 32 (i 1).val)
  let e := Scalar.select (Scalar.cmpi .eq 8#32 0#32) 1#32 8#32
  let r := Scalar.remsi w e
  Scalar.muli (Scalar.select (Scalar.andi (Scalar.xori (Scalar.cmpi .slt r 0#32) (Scalar.cmpi .slt e 0#32)) (Scalar.cmpi .ne r 0#32)) (Scalar.addi r e) r) 2#32

omit [FloatOps F] in
theorem cond1_iff (L : grid0.Coords) : Scalar.cmpi .ne (Scalar.extui (Scalar.cmpi .eq (splitWord L) 0#32) : BitVec 32) 0#32 = 1#1 ↔ wid L / 8 = 0 := by
  obtain ⟨c, s, rfl⟩ := coords_eq L
  have h : ∀ (c : Fin 2) (s : Fin 16), Scalar.cmpi .ne (Scalar.extui (Scalar.cmpi .eq (splitWord (coordsV c s)) 0#32) : BitVec 32) 0#32 = 1#1 ↔ wid (coordsV c s) / 8 = 0 := by
    decide +kernel
  exact h c s

theorem part1_eq : k0_part1 (F := F) L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8
    = (do
        Prog.lift (.enqueueDma (((mXs).slice (Rect.unit (s := S16x16384) (k0_off1 L) S1x16384.size (k0_off1_inb L)) (fun _ => rfl)).squeeze S16384 squeezes_S1x16384_S16384)
          (.here mX0) (.dma cc0_scoped0.sem) ((View.wordExact_bits rfl).reshape _ _) (Memref.isWhole_whole _).wordExact ⟨Or.inl rfl, trivial⟩)
        pure ⟨splitWord L, rowWord L⟩) := rfl

/-! ## The tile's body -/

/-- What a tile is handed: read shares of the five inputs, its two rows of partial sums. -/
def inputs (q : PosShare TreeShare) (X : Vec F S16x16384 .f32) (S D : Vec F S2686976 .i32) (V : Vec F S2686976 .f32) (B : Vec F S16384 .f32) : sProp 𝕄 :=
  iprop(((mXs).view.loc (thr d L) ↦{q} X) ∗ ((mSr).view.loc (thr d L) ↦{q} S) ∗ ((mDs).view.loc (thr d L) ↦{q} D)
    ∗ ((mVl).view.loc (thr d L) ↦{q} V) ∗ ((mBi).view.loc (thr d L) ↦{q} B))
def outRows (f : Vec F S64x16384 .f32) : sProp 𝕄 :=
  iprop(((oRow6 L).view.loc (thr d L) ↦[(oRow6 L).view.set]{fullShare} f) ∗ ((oRow7 L).view.loc (thr d L) ↦[(oRow7 L).view.set]{fullShare} f))

omit [FloatOps F] in
theorem partials_at [FloatOps F] (X : Vec F Rows .f32) (S D : Edge.Idx → BitVec 32) (V : Vec F Edge .f32) (B : Vec F Row .f32) (i : Parts.Idx) (r : ℕ) (j : Row.Idx)
    (h0 : (i 0).val = r) (h1 : (i 1).val = (j 0).val) : partials X S D V B i = partialRow X S D V B r j := by
  subst h0
  refine congrArg (partialRow X S D V B (i 0).val) (funext fun a => Fin.ext ?_)
  obtain rfl : a = 0 := Subsingleton.elim _ _
  exact h1

/-- What the chunks' loop and the two copies out use. -/
def tailHeld (X0 X1 A0 A1 : Vec F S16384 .f32) (S D : Vec F S2686976 .i32) (V : Vec F S2686976 .f32) (q : PosShare TreeShare) (f0 f1 : Vec F S64x16384 .f32)
    (O : CellTallies nD τ sig (HIx 1)) (W : Waits sig (HIx 1)) : sProp 𝕄 :=
  iprop((∃ s t v, stepHeld d L X0 X1 A0 A1 s t v) ∗ listsHeld d L S D V q O W
    ∗ (((oRow6 L).view.loc (thr d L) ↦[(oRow6 L).view.set]{fullShare} f0) ∗ ((oRow7 L).view.loc (thr d L) ↦[(oRow7 L).view.set]{fullShare} f1))
    ∗ semVal ((thr d L), SemLoc.dma cc0_scoped7.sem) 0 ∗ semVal ((thr d L), SemLoc.dma cc0_scoped8.sem) 0)

theorem write_row6 (X : Vec F S16x16384 .f32) (S D : Vec F S2686976 .i32) (V : Vec F S2686976 .f32) (B : Vec F S16384 .f32) (f : Vec F S64x16384 .f32) :
    ((oRow6 L).view.loc (thr d L) ↦[(oRow6 L).view.set]{fullShare} (oRow6 L).view.writes (Elt F) f [⟨Rect.whole S16384, (partialRow X S D V B (2 * wid L) : Vec F S16384 .f32)⟩] : sProp 𝕄)
      = (oRow6 L).view.loc (thr d L) ↦[(oRow6 L).view.set]{fullShare} (partials X S D V B : Vec F S64x16384 .f32) := by
  refine write_row d L (oRow6 L) (partials X S D V B : Vec F S64x16384 .f32) f _ fun j => ?_
  refine (partials_at X S D V B _ (2 * wid L) j ?_ ?_).trans (cast_eq _ _).symm
  · refine (emb_row (n := 64) (k0_off6_inb L) _ j 0).trans ?_
    rw [off6_eq]; rfl
  · refine (emb_row (n := 64) (k0_off6_inb L) _ j 1).trans ?_
    rw [off6_eq]; show 0 + (j 0).val = (j 0).val; omega

theorem write_row7 (X : Vec F S16x16384 .f32) (S D : Vec F S2686976 .i32) (V : Vec F S2686976 .f32) (B : Vec F S16384 .f32) (f : Vec F S64x16384 .f32) :
    ((oRow7 L).view.loc (thr d L) ↦[(oRow7 L).view.set]{fullShare} (oRow7 L).view.writes (Elt F) f [⟨Rect.whole S16384, (partialRow X S D V B (2 * wid L + 1) : Vec F S16384 .f32)⟩] : sProp 𝕄)
      = (oRow7 L).view.loc (thr d L) ↦[(oRow7 L).view.set]{fullShare} (partials X S D V B : Vec F S64x16384 .f32) := by
  refine write_row d L (oRow7 L) (partials X S D V B : Vec F S64x16384 .f32) f _ fun j => ?_
  refine (partials_at X S D V B _ (2 * wid L + 1) j ?_ ?_).trans (cast_eq _ _).symm
  · refine (emb_row (n := 64) (k0_off7_inb L) _ j 0).trans ?_
    rw [off7_eq]; rfl
  · refine (emb_row (n := 64) (k0_off7_inb L) _ j 1).trans ?_
    rw [off7_eq]; show 0 + (j 0).val = (j 0).val; omega

/-- The chunks' loop and the two copies out. -/
theorem tail_wp (X : Vec F S16x16384 .f32) (S D : Vec F S2686976 .i32) (V : Vec F S2686976 .f32) (B : Vec F S16384 .f32) (q : PosShare TreeShare)
    (f : Vec F S64x16384 .f32) (hS : InRange S) (hD : InRange D) (O : CellTallies nD τ sig (HIx 1)) (W : Waits sig (HIx 1)) (v28 v29 : BitVec 32) :
    tailHeld d L (rowOf X (2 * wid L)) (rowOf X (2 * wid L + 1)) (start B (wid L / 8)) (start B (wid L / 8)) S D V q f f O W
      ⊢ wp frame (wpE (defs₀ (F := F)) 𝒱₀ (thr d L) none) Set.univ
          (do
            (do
              Scf.Loop.for k0_t2_loop k0_t2_ok ⟨⟩ (k0_t2_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29)
              Prog.lift (.enqueueDma mA0 (.here (oRow6 L)) (.dma cc0_scoped7.sem) (Memref.isWhole_whole _).wordExact ((View.wordExact_bits rfl).reshape _ _) ⟨Or.inl rfl, trivial⟩)
              Prog.lift (.waitDma2 cc0_scoped7.sem mA0 (oRow6 L) (Memref.isWhole_whole _).wordExact ((View.wordExact_bits rfl).reshape _ _))
              pure ⟨⟩ : Prog (TpuEff nD τ sig (Elt F) Λ₀ (.scVector ((L 0).castLE hcore0) ((L 1).castLE hsub0))) PUnit)
            Prog.lift (.enqueueDma mA1 (.here (oRow7 L)) (.dma cc0_scoped8.sem) (Memref.isWhole_whole _).wordExact ((View.wordExact_bits rfl).reshape _ _) ⟨Or.inl rfl, trivial⟩)
            Prog.lift (.waitDma2 cc0_scoped8.sem mA1 (oRow7 L) (Memref.isWhole_whole _).wordExact ((View.wordExact_bits rfl).reshape _ _))
            pure ⟨⟩ : Prog (TpuEff nD τ sig (Elt F) Λ₀ (.scVector ((L 0).castLE hcore0) ((L 1).castLE hsub0))) PUnit)
          fun _ => tailHeld d L (rowOf X (2 * wid L)) (rowOf X (2 * wid L + 1)) (partialRow X S D V B (2 * wid L)) (partialRow X S D V B (2 * wid L + 1)) S D V q
            (partials X S D V B) (partials X S D V B) O W := by
  have e0 : partialRow X S D V B (2 * wid L) = accN (rowOf X (2 * wid L)) S D V (start B (wid L / 8)) (671744 * (wid L / 8)) splitSteps := by
    unfold partialRow; rw [show 2 * wid L / 16 = wid L / 8 by omega]
  have e1 : partialRow X S D V B (2 * wid L + 1) = accN (rowOf X (2 * wid L + 1)) S D V (start B (wid L / 8)) (671744 * (wid L / 8)) splitSteps := by
    unfold partialRow; rw [show (2 * wid L + 1) / 16 = wid L / 8 by omega]
  unfold tailHeld
  iintro ⟨HI, HL, ⟨H6, H7⟩, C7, C8⟩
  rw [wp_bind]
  iapply (wp_piece (F := F) d L (chunks_wp d L _ _ _ _ S D V q O W v28 v29 hS hD))
  isplitl [HI HL]; · isplitl [HI] <;> iassumption
  iintro %_ HI
  rw [← e0, ← e1]
  unfold stepHeld listsHeld
  icases HI with ⟨⟨%s, %t, %v, HX0, HX1, HA0, HA1, Hs, Ht, Hv⟩, Hmw, HS, HD, HV, C4, C5, C6, %W', %hW', HO⟩
  sl_exec
  sl_step
  isplitl [HX0 HX1 HA0 HA1 Hs Ht Hv]
  · iexists s, t, v
    isplitl [HX0]; · iexact HX0
    isplitl [HX1]; · iexact HX1
    isplitl [HA0]; · iexact HA0
    isplitl [HA1]; · iexact HA1
    isplitl [Hs]; · iexact Hs
    isplitl [Ht] <;> iassumption
  isplitl [Hmw HS HD HV C4 C5 C6 HO]
  · isplitl [Hmw]; · iexact Hmw
    isplitl [HS]; · iexact HS
    isplitl [HD]; · iexact HD
    isplitl [HV]; · iexact HV
    isplitl [C4]; · iexact C4
    isplitl [C5]; · iexact C5
    isplitl [C6]; · iexact C6
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [H6 H7]
  · isplitl [H6]
    · iapply (Entails.of_eq (write_row6 d L X S D V B f))
      iapply (Entails.of_eq (congrArg (fun g : Vec F S16384 .f32 => ((oRow6 L).view.loc (thr d L) ↦[(oRow6 L).view.set]{fullShare} (oRow6 L).view.writes (Elt F) f [⟨Rect.whole S16384, g⟩] : sProp 𝕄))
        (show tail_wp.sl.dma0 L X S D V B = _ from View.read_whole (Val := Elt F) cc0_scratch2 _))) $$ H6
    · iapply (Entails.of_eq (write_row7 d L X S D V B f))
      iapply (Entails.of_eq (congrArg (fun g : Vec F S16384 .f32 => ((oRow7 L).view.loc (thr d L) ↦[(oRow7 L).view.set]{fullShare} (oRow7 L).view.writes (Elt F) f [⟨Rect.whole S16384, g⟩] : sProp 𝕄))
        (show tail_wp.sl.dma0_1 L X S D V B = _ from View.read_whole (Val := Elt F) cc0_scratch3 _))) $$ H7
  isplitl [C7]; · iexact C7
  iexact C8

/-- What the last part leaves alone. -/
def aside (q : PosShare TreeShare) (X : Vec F S16x16384 .f32) (B : Vec F S16384 .f32) : sProp 𝕄 :=
  iprop((((mXs).view.loc (thr d L) ↦{q} X) ∗ ((mBi).view.loc (thr d L) ↦{q} B))
    ∗ (semVal ((thr d L), SemLoc.dma cc0_scoped0.sem) 0 ∗ semVal ((thr d L), SemLoc.dma cc0_scoped1.sem) 0 ∗ semVal ((thr d L), SemLoc.dma cc0_scoped2.sem) 0
      ∗ semVal ((thr d L), SemLoc.dma cc0_scoped3.sem) 0 ∗ bigSep (otherCells d L) fun g => semVal g 0)
    ∗ bigSep (otherRefs L) fun b => iprop(∃ f, ((d, b) : Loc nD τ sig) ↦{fullShare} f))

/-- What the tile's body leaves. -/
def bodyPost (q : PosShare TreeShare) (X : Vec F S16x16384 .f32) (S D : Vec F S2686976 .i32) (V : Vec F S2686976 .f32) (B : Vec F S16384 .f32)
    (O : CellTallies nD τ sig (HIx 1)) (W : Waits sig (HIx 1)) : sProp 𝕄 :=
  iprop((inputs d L q X S D V B ∗ outRows d L (partials X S D V B))
            ∗ scopedBufs (thr d L) ∗ scopedSems0 (thr d L) ∗ ∃ W', ⌜∀ p ∈ W', p ∈ W ∨ p.2 = none⌝ ∗ owes (thr d L) O W')

theorem post_of (hF : (K (F := F)).Facts) (X0 X1 A0 A1 : Vec F S16384 .f32) (q : PosShare TreeShare) (X : Vec F S16x16384 .f32) (S D : Vec F S2686976 .i32) (V : Vec F S2686976 .f32) (B : Vec F S16384 .f32)
    (O : CellTallies nD τ sig (HIx 1)) (W : Waits sig (HIx 1)) :
    iprop(tailHeld d L X0 X1 A0 A1 S D V q (partials X S D V B) (partials X S D V B) O W ∗ aside d L q X B) ⊢ bodyPost d L q X S D V B O W := by
  unfold tailHeld aside bodyPost inputs outRows stepHeld listsHeld
  rw [(K (F := F)).scopedBufs_V hF d (cV L) (jV L), SparseCore.Cfg.scopedSems0_V (Val := Elt F) d (cV L) (jV L), ownSems_tile, ownBufs_tile]
  iintro ⟨⟨⟨%s, %t, %v, HX0, HX1, HA0, HA1, Hs, Ht, Hv⟩, ⟨-, HS, HD, HV, C4, C5, C6, HO⟩, ⟨H6, H7⟩, C7, C8⟩, ⟨HX, HB⟩, ⟨C0, C1, C2, C3, Hsems⟩, Hbufs⟩
  isplitl [HX HB HS HD HV H6 H7]
  · isplitl [HX HB HS HD HV]
    · isplitl [HX]; · iexact HX
      isplitl [HS]; · iexact HS
      isplitl [HD]; · iexact HD
      isplitl [HV]; · iexact HV
      iexact HB
    · isplitl [H6] <;> iassumption
  isplitl [HX0 HX1 HA0 HA1 Hs Ht Hv Hbufs]
  · isplitl [HX0]; · iexists _; iexact HX0
    isplitl [HX1]; · iexists _; iexact HX1
    isplitl [HA0]; · iexists _; iexact HA0
    isplitl [HA1]; · iexists _; iexact HA1
    isplitl [Hs]; · iexists _; iexact Hs
    isplitl [Ht]; · iexists _; iexact Ht
    isplitl [Hv]; · iexists _; iexact Hv
    iexact Hbufs
  isplitl [C0 C1 C2 C3 C4 C5 C6 C7 C8 Hsems]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    iexact Hsems
  iexact HO

theorem rest_wp (hF : (K (F := F)).Facts) (X : Vec F S16x16384 .f32) (S D : Vec F S2686976 .i32) (V : Vec F S2686976 .f32) (B : Vec F S16384 .f32) (q : PosShare TreeShare)
    (f : Vec F S64x16384 .f32) (hS : InRange S) (hD : InRange D) (O : CellTallies nD τ sig (HIx 1)) (W : Waits sig (HIx 1)) (v28 v29 : BitVec 32) :
    iprop(tailHeld d L (rowOf X (2 * wid L)) (rowOf X (2 * wid L + 1)) (start B (wid L / 8)) (start B (wid L / 8)) S D V q f f O W ∗ aside d L q X B)
      ⊢ wp frame (wpE (defs₀ (F := F)) 𝒱₀ (thr d L) none) Set.univ
          (do
            (do
              Scf.Loop.for k0_t2_loop k0_t2_ok ⟨⟩ (k0_t2_body L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8 v28 v29)
              Prog.lift (.enqueueDma mA0 (.here (oRow6 L)) (.dma cc0_scoped7.sem) (Memref.isWhole_whole _).wordExact ((View.wordExact_bits rfl).reshape _ _) ⟨Or.inl rfl, trivial⟩)
              Prog.lift (.waitDma2 cc0_scoped7.sem mA0 (oRow6 L) (Memref.isWhole_whole _).wordExact ((View.wordExact_bits rfl).reshape _ _))
              pure ⟨⟩ : Prog (TpuEff nD τ sig (Elt F) Λ₀ (.scVector ((L 0).castLE hcore0) ((L 1).castLE hsub0))) PUnit)
            Prog.lift (.enqueueDma mA1 (.here (oRow7 L)) (.dma cc0_scoped8.sem) (Memref.isWhole_whole _).wordExact ((View.wordExact_bits rfl).reshape _ _) ⟨Or.inl rfl, trivial⟩)
            Prog.lift (.waitDma2 cc0_scoped8.sem mA1 (oRow7 L) (Memref.isWhole_whole _).wordExact ((View.wordExact_bits rfl).reshape _ _))
            pure ⟨⟩ : Prog (TpuEff nD τ sig (Elt F) Λ₀ (.scVector ((L 0).castLE hcore0) ((L 1).castLE hsub0))) PUnit)
          fun _ => bodyPost d L q X S D V B O W :=
  (sep_mono_left (tail_wp d L X S D V B q f hS hD O W v28 v29)).trans ((wp_frame_r frame _ Set.univ).trans (wp_mono frame _ _ fun _ => post_of d L hF _ _ _ _ q X S D V B O W))

set_option maxHeartbeats 4000000 in
/-- The tile's task, run: its two rows hold the model's partial sums. -/
theorem body_wp (hF : (K (F := F)).Facts) (q : PosShare TreeShare) (X : Vec F S16x16384 .f32) (S D : Vec F S2686976 .i32) (V : Vec F S2686976 .f32)
    (B : Vec F S16384 .f32) (f : Vec F S64x16384 .f32) (hS : InRange S) (hD : InRange D)
    (O : CellTallies nD τ sig (HIx 1)) (W : Waits sig (HIx 1)) (hO : ∀ g, O g none = 0) :
    iprop(levAts (K (F := F)).L (K (F := F)).lev ∗ emp ∗ (inputs d L q X S D V B ∗ outRows d L f)
        ∗ scopedBufs (thr d L) ∗ scopedSems0 (thr d L) ∗ owes (thr d L) O W)
      ⊢ wp frame (wpE (defs₀ (F := F)) 𝒱₀ (thr d L) none) Set.univ
          (cc0_spmm L mXs (Memref.isWhole_whole _) mSr (Memref.isWhole_whole _) mDs (Memref.isWhole_whole _) mVl (Memref.isWhole_whole _) mBi (Memref.isWhole_whole _) mOu (Memref.isWhole_whole _)
            mX0 (Memref.isWhole_whole _) mX1 (Memref.isWhole_whole _) mA0 (Memref.isWhole_whole _) mA1 (Memref.isWhole_whole _) mSb (Memref.isWhole_whole _) mDb (Memref.isWhole_whole _) mVb (Memref.isWhole_whole _)
            cc0_scoped0 cc0_scoped1 cc0_scoped2 cc0_scoped3 cc0_scoped4 cc0_scoped5 cc0_scoped6 cc0_scoped7 cc0_scoped8)
          fun _ => bodyPost d L q X S D V B O W := by
  have ex0 := read_row (F := F) X (2 * wid L) (off1_eq L) (k0_off1_inb L)
  have ex1 := read_row (F := F) X (2 * wid L + 1) (off2_eq L) (k0_off2_inb L)
  simp only [cc0_spmm_eq_skeleton]; unfold cc0_spmm_skel
  rw [part1_eq, k0_part2_eq_skeleton]; unfold k0_part2_skel inputs outRows
  rw [(K (F := F)).scopedBufs_V hF d (cV L) (jV L), SparseCore.Cfg.scopedSems0_V (Val := Elt F) d (cV L) (jV L), ownSems_tile, ownBufs_tile]
  iintro ⟨#Hlv, -, ⟨⟨HX, HS, HD, HV, HB⟩, H6, H7⟩, ⟨⟨%x0, HX0⟩, ⟨%x1, HX1⟩, ⟨%a0, HA0⟩, ⟨%a1, HA1⟩, ⟨%s, Hs⟩, ⟨%t, Ht⟩, ⟨%v, Hv⟩, Hbufs⟩,
    ⟨C0, C1, C2, C3, C4, C5, C6, C7, C8, Hsems⟩, HO⟩
  ihave Hmw := (show levAts (K (F := F)).L (K (F := F)).lev ⊢ Transfers.MayWaits (thr d L) (default : HIx 1) O from
    (K (F := F)).mayWaits_none (thr := thr d L) hO) $$ Hlv
  ihave HX0 := (Entails.of_eq (show (((d, (Proc.scVector (cV L) (jV L)).devRef cc0_scratch0) : Loc nD τ sig) ↦{fullShare} x0 : sProp 𝕄) = (((mX0).view.loc (thr d L)) ↦{fullShare} x0) from rfl)) $$ HX0
  ihave HX1 := (Entails.of_eq (show (((d, (Proc.scVector (cV L) (jV L)).devRef cc0_scratch1) : Loc nD τ sig) ↦{fullShare} x1 : sProp 𝕄) = (((mX1).view.loc (thr d L)) ↦{fullShare} x1) from rfl)) $$ HX1
  ihave HA0 := (Entails.of_eq (show (((d, (Proc.scVector (cV L) (jV L)).devRef cc0_scratch2) : Loc nD τ sig) ↦{fullShare} a0 : sProp 𝕄) = (((mA0).view.loc (thr d L)) ↦{fullShare} a0) from rfl)) $$ HA0
  ihave HA1 := (Entails.of_eq (show (((d, (Proc.scVector (cV L) (jV L)).devRef cc0_scratch3) : Loc nD τ sig) ↦{fullShare} a1 : sProp 𝕄) = (((mA1).view.loc (thr d L)) ↦{fullShare} a1) from rfl)) $$ HA1
  by_cases h0 : wid L / 8 = 0
  · have h1 := (cond1_iff L).mpr h0
    have h2 : ¬ k0_cond2 L = 1#1 := fun h => (cond2_iff L).mp h h0
    have hst : (start B (wid L / 8) : Vec F S16384 .f32) = B := if_pos h0
    sl_exec
    ihave HA0 := (Entails.of_eq (congrArg (fun g : Vec F S16384 .f32 => ((mA0).view.loc (thr d L) ↦{fullShare} g : sProp 𝕄))
      (show View.write (Elt F) (mA0).view a0 (body_wp.sl.dma0_2 B) Finset.univ = _ from (View.write_whole_univ _ _ _).trans ((View.read_whole (Val := Elt F) main_v8_scv _).trans hst.symm)))) $$ HA0
    ihave HA1 := (Entails.of_eq (congrArg (fun g : Vec F S16384 .f32 => ((mA1).view.loc (thr d L) ↦{fullShare} g : sProp 𝕄))
      (show View.write (Elt F) (mA1).view a1 (body_wp.sl.dma0_2 B) Finset.univ = _ from (View.write_whole_univ _ _ _).trans ((View.read_whole (Val := Elt F) main_v8_scv _).trans hst.symm)))) $$ HA1
    ihave HX0 := (Entails.of_eq (congrArg (fun g : Vec F S16384 .f32 => ((mX0).view.loc (thr d L) ↦{fullShare} g : sProp 𝕄))
      (show View.write (Elt F) (mX0).view x0 (body_wp.sl.dma0 L X) Finset.univ = _ from (View.write_whole_univ _ _ _).trans ex0))) $$ HX0
    ihave HX1 := (Entails.of_eq (congrArg (fun g : Vec F S16384 .f32 => ((mX1).view.loc (thr d L) ↦{fullShare} g : sProp 𝕄))
      (show View.write (Elt F) (mX1).view x1 (body_wp.sl.dma0_1 L X) Finset.univ = _ from (View.write_whole_univ _ _ _).trans ex1))) $$ HX1
    iapply (rest_wp d L hF X S D V B q f hS hD O W (splitWord L) (rowWord L))
    unfold tailHeld aside stepHeld listsHeld
    isplitr [HX HB C0 C1 C2 C3 Hsems Hbufs]
    · isplitl [HX0 HX1 HA0 HA1 Hs Ht Hv]
      · iexists s, t, v
        isplitl [HX0]; · iexact HX0
        isplitl [HX1]; · iexact HX1
        isplitl [HA0]; · iexact HA0
        isplitl [HA1]; · iexact HA1
        isplitl [Hs]; · iexact Hs
        isplitl [Ht] <;> iassumption
      isplitl [HS HD HV C4 C5 C6 HO]
      · isplitr; · iexact Hmw
        isplitl [HS]; · iexact HS
        isplitl [HD]; · iexact HD
        isplitl [HV]; · iexact HV
        isplitl [C4]; · iexact C4
        isplitl [C5]; · iexact C5
        isplitl [C6]; · iexact C6
        iexists _; isplitr
        swap; · iexact HO
        ipureintro; intro p hp
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        rcases Finset.mem_insert.mp hp with hp | hp; · exact .inr (hp ▸ rfl)
        exact .inl hp
      isplitl [H6 H7]; · isplitl [H6] <;> iassumption
      isplitl [C7] <;> iassumption
    isplitl [HX HB]; · isplitl [HX] <;> iassumption
    isplitl [C0 C1 C2 C3 Hsems]
    · isplitl [C0]; · iexact C0
      isplitl [C1]; · iexact C1
      isplitl [C2]; · iexact C2
      isplitl [C3]; · iexact C3
      iexact Hsems
    iexact Hbufs
  · have h1 : ¬ Scalar.cmpi .ne (Scalar.extui (Scalar.cmpi .eq (splitWord L) 0#32) : BitVec 32) 0#32 = 1#1 := fun h => h0 ((cond1_iff L).mp h)
    have h2 : k0_cond2 L = 1#1 := (cond2_iff L).mpr h0
    have hst : (start B (wid L / 8) : Vec F S16384 .f32) = zeroRow := if_neg h0
    sl_exec
    rw [Prog.bind_assoc]
    iapply (wp_piece d L (zeros_wp d L a0 a1 (splitWord L) (rowWord L) h2))
    isplitl [HA0 HA1]; · isplitl [HA0] <;> iassumption
    iintro %_ ⟨HA0, HA1⟩
    ihave HA0 := (Entails.of_eq (congrArg (fun g : Vec F S16384 .f32 => ((mA0).view.loc (thr d L) ↦{fullShare} g : sProp 𝕄)) hst.symm)) $$ HA0
    ihave HA1 := (Entails.of_eq (congrArg (fun g : Vec F S16384 .f32 => ((mA1).view.loc (thr d L) ↦{fullShare} g : sProp 𝕄)) hst.symm)) $$ HA1
    ihave HX0 := (Entails.of_eq (congrArg (fun g : Vec F S16384 .f32 => ((mX0).view.loc (thr d L) ↦{fullShare} g : sProp 𝕄))
      (show View.write (Elt F) (mX0).view x0 (body_wp.sl.dma0_3 L X) Finset.univ = _ from (View.write_whole_univ _ _ _).trans ex0))) $$ HX0
    ihave HX1 := (Entails.of_eq (congrArg (fun g : Vec F S16384 .f32 => ((mX1).view.loc (thr d L) ↦{fullShare} g : sProp 𝕄))
      (show View.write (Elt F) (mX1).view x1 (body_wp.sl.dma0_4 L X) Finset.univ = _ from (View.write_whole_univ _ _ _).trans ex1))) $$ HX1
    iapply (rest_wp d L hF X S D V B q f hS hD O W (splitWord L) (rowWord L))
    unfold tailHeld aside stepHeld listsHeld
    isplitr [HX HB C0 C1 C2 C3 Hsems Hbufs]
    · isplitl [HX0 HX1 HA0 HA1 Hs Ht Hv]
      · iexists s, t, v
        isplitl [HX0]; · iexact HX0
        isplitl [HX1]; · iexact HX1
        isplitl [HA0]; · iexact HA0
        isplitl [HA1]; · iexact HA1
        isplitl [Hs]; · iexact Hs
        isplitl [Ht] <;> iassumption
      isplitl [HS HD HV C4 C5 C6 HO]
      · isplitr; · iexact Hmw
        isplitl [HS]; · iexact HS
        isplitl [HD]; · iexact HD
        isplitl [HV]; · iexact HV
        isplitl [C4]; · iexact C4
        isplitl [C5]; · iexact C5
        isplitl [C6]; · iexact C6
        iexists _; isplitr
        swap; · iexact HO
        ipureintro; intro p hp
        rcases Finset.mem_insert.mp hp with hp | hp; · exact .inr (hp ▸ rfl)
        rcases Finset.mem_insert.mp hp with hp | hp; · exact .inr (hp ▸ rfl)
        exact .inl hp
      isplitl [H6 H7]; · isplitl [H6] <;> iassumption
      isplitl [C7] <;> iassumption
    isplitl [HX HB]; · isplitl [HX] <;> iassumption
    isplitl [C0 C1 C2 C3 Hsems]
    · isplitl [C0]; · iexact C0
      isplitl [C1]; · iexact C1
      isplitl [C2]; · iexact C2
      isplitl [C3]; · iexact C3
      iexact Hsems
    iexact Hbufs

end Tile

end Cert.Proof.KernelIdeal

end
-- ==== Proof.DealIdeal.lean ====
/-
  The SparseCore call's six arrays dealt among the 32 tiles: a read share of each of the five inputs to every tile, and
  to each tile its own two rows of the partial sums.
-/
module

public import proofs.«01_k».proof.Proof.BodyIdeal

@[expose] public section

set_option maxRecDepth 16384

noncomputable section

namespace Cert.Proof.KernelIdeal

open Cert.KernelIdeal Cert.KernelIdeal.Gen Cert.Proof.Model

open Idealize.ShloMosaic Idealize.ShloMosaic.TcCoe
open Idealize.ShloMosaic.SparseCore.Cfg (HIx Pay)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A tile: its SparseCore and its place on it. -/
abbrev Tile : Type := Fin 2 × Fin 16

/-- The tile's read share: one of 32 of the whole. -/
def shareOf (p : Tile) : PosShare TreeShare := dealOf fullShare (Finset.univ : Finset (Fin (2 * 16))) (finProdFinEquiv p)

abbrev coordsOf (p : Tile) : grid0.Coords := coordsV p.1 p.2

/-- The elements of the partial sums that tile `p` writes. -/
def rows6 (p : Tile) : Finset S64x16384.Idx := (oRow6 (coordsOf p)).view.set
def rows7 (p : Tile) : Finset S64x16384.Idx := (oRow7 (coordsOf p)).view.set

omit [FloatOps F] in
theorem mem_rows6 (p : Tile) (i : S64x16384.Idx) (h : i ∈ rows6 p) : (i 0).val = 2 * (16 * p.1.val + p.2.val) := by
  obtain ⟨j, -, rfl⟩ := Finset.mem_map.mp h
  refine (emb_row (n := 64) (k0_off6_inb (coordsOf p)) _ j 0).trans ?_
  rw [off6_eq]
  rfl

omit [FloatOps F] in
theorem mem_rows7 (p : Tile) (i : S64x16384.Idx) (h : i ∈ rows7 p) : (i 0).val = 2 * (16 * p.1.val + p.2.val) + 1 := by
  obtain ⟨j, -, rfl⟩ := Finset.mem_map.mp h
  refine (emb_row (n := 64) (k0_off7_inb (coordsOf p)) _ j 0).trans ?_
  rw [off7_eq]
  rfl

omit [FloatOps F] in
theorem rows6_mem (p : Tile) (i : S64x16384.Idx) (h : (i 0).val = 2 * (16 * p.1.val + p.2.val)) : i ∈ rows6 p := by
  refine Finset.mem_map.mpr ⟨Shape.ofLane (d := ![16384]) (i 1), Finset.mem_univ _, funext fun a => Fin.ext ?_⟩
  refine (emb_row (n := 64) (k0_off6_inb (coordsOf p)) _ _ a).trans ?_
  rw [off6_eq]
  match a with
  | 0 => exact h.symm
  | 1 => exact Nat.zero_add _

omit [FloatOps F] in
theorem rows7_mem (p : Tile) (i : S64x16384.Idx) (h : (i 0).val = 2 * (16 * p.1.val + p.2.val) + 1) : i ∈ rows7 p := by
  refine Finset.mem_map.mpr ⟨Shape.ofLane (d := ![16384]) (i 1), Finset.mem_univ _, funext fun a => Fin.ext ?_⟩
  refine (emb_row (n := 64) (k0_off7_inb (coordsOf p)) _ _ a).trans ?_
  rw [off7_eq]
  match a with
  | 0 => exact h.symm
  | 1 => exact Nat.zero_add _

omit [FloatOps F] in
theorem rows_split (p : Tile) : Disjoint (rows6 p) (rows7 p) :=
  Finset.disjoint_left.mpr fun i h6 h7 => by have := mem_rows6 p i h6; have := mem_rows7 p i h7; omega

omit [FloatOps F] in
theorem rows_disjoint : ∀ p ∈ (Finset.univ : Finset Tile), ∀ p' ∈ (Finset.univ : Finset Tile), p ≠ p' →
    Disjoint (rows6 p ∪ rows7 p) (rows6 p' ∪ rows7 p') := fun p _ p' _ hne =>
  Finset.disjoint_left.mpr fun i h h' => hne <| by
    have e1 : (i 0).val / 2 = 16 * p.1.val + p.2.val := by
      rcases Finset.mem_union.mp h with h | h
      · have := mem_rows6 p i h; omega
      · have := mem_rows7 p i h; omega
    have e2 : (i 0).val / 2 = 16 * p'.1.val + p'.2.val := by
      rcases Finset.mem_union.mp h' with h | h
      · have := mem_rows6 p' i h; omega
      · have := mem_rows7 p' i h; omega
    have b1 := p.2.isLt
    have b2 := p'.2.isLt
    exact Prod.ext (Fin.ext (by omega)) (Fin.ext (by omega))

omit [FloatOps F] in
theorem rows_cover : (Finset.univ : Finset Tile).biUnion (fun p => rows6 p ∪ rows7 p) = Finset.univ := by
  refine Finset.eq_univ_of_forall fun i => Finset.mem_biUnion.mpr ?_
  have hi : (i 0).val < 64 := (i 0).isLt
  refine ⟨(⟨(i 0).val / 32, by omega⟩, ⟨(i 0).val / 2 % 16, by omega⟩), Finset.mem_univ _, Finset.mem_union.mpr ?_⟩
  by_cases h : (i 0).val % 2 = 0
  · exact .inl (rows6_mem _ _ (by show _ = 2 * (16 * ((i 0).val / 32) + (i 0).val / 2 % 16); omega))
  · exact .inr (rows7_mem _ _ (by show _ = 2 * (16 * ((i 0).val / 32) + (i 0).val / 2 % 16) + 1; omega))

/-- The six arrays whole, as the TensorCore names them. -/
def operands (d : Dev nD) (X : Vec F S16x16384 .f32) (S D : Vec F S2686976 .i32) (V : Vec F S2686976 .f32) (B : Vec F S16384 .f32)
    (f : Vec F S64x16384 .f32) : sProp 𝕄 :=
  iprop(((SparseCore.T d).loc main_v0 ↦{fullShare} X) ∗ ((SparseCore.T d).loc main_v3 ↦{fullShare} S) ∗ ((SparseCore.T d).loc main_v6 ↦{fullShare} D)
    ∗ ((SparseCore.T d).loc main_v7 ↦{fullShare} V) ∗ ((SparseCore.T d).loc main_v8 ↦{fullShare} B) ∗ ((SparseCore.T d).loc main_v9 ↦{fullShare} f))

/-- One tile's part of them. -/
def part (d : Dev nD) (X : Vec F S16x16384 .f32) (S D : Vec F S2686976 .i32) (V : Vec F S2686976 .f32) (B : Vec F S16384 .f32)
    (f : Vec F S64x16384 .f32) (p : Tile) : sProp 𝕄 :=
  iprop(inputs d (coordsOf p) (shareOf p) X S D V B ∗ outRows d (coordsOf p) f)

/-- An array whole is its 32 read shares. -/
theorem shares (ℓ : Loc nD τ sig) (f : Buf (Elt F) ℓ) :
    (ℓ ↦{fullShare} f : sProp 𝕄) = bigSep Finset.univ fun p : Tile => ℓ ↦{shareOf p} f := by
  rw [pointsTo_deal (Finset.univ : Finset (Fin (2 * 16))) ⟨0, Finset.mem_univ _⟩ fullShare, bigSep_univ_equiv finProdFinEquiv]
  rfl

/-- The partial sums whole are the tiles' rows. -/
theorem rows (d : Dev nD) (f : Vec F S64x16384 .f32) :
    ((SparseCore.T d).loc main_v9 ↦{fullShare} f : sProp 𝕄) = bigSep Finset.univ fun p : Tile => outRows d (coordsOf p) f := by
  have h := pointsTo_biUnion (Ix := HIx 1) (Val := Elt F) (Name := ℕ) (U := UU) (Lvl := ℕ) (ℓ := ((SparseCore.T d).loc main_v9 : Loc nD τ sig)) (q := fullShare) (f := f)
    Finset.univ (fun p : Tile => rows6 p ∪ rows7 p) rows_disjoint
  rw [rows_cover] at h
  refine h.trans (bigSep_congr fun p _ => ?_)
  have u := pointsTo_union (Ix := HIx 1) (Val := Elt F) (Name := ℕ) (U := UU) (Lvl := ℕ) (ℓ := ((SparseCore.T d).loc main_v9 : Loc nD τ sig)) (q := fullShare) (f := f)
    (I := rows6 p) (J := rows7 p) (rows_split p)
  exact BI.equiv_iff.mp ⟨u.1, u.2⟩

/-- Six held things, the last set apart. -/
theorem regroup (A0 A1 A2 A3 A4 A5 : sProp 𝕄) : iprop(A0 ∗ A1 ∗ A2 ∗ A3 ∗ A4 ∗ A5) = iprop((A0 ∗ A1 ∗ A2 ∗ A3 ∗ A4) ∗ A5) := by
  have h1 : iprop(A0 ∗ A1 ∗ A2 ∗ A3 ∗ A4 ∗ A5) ⊢ iprop((A0 ∗ A1 ∗ A2 ∗ A3 ∗ A4) ∗ A5) := by
    iintro ⟨H0, H1, H2, H3, H4, H5⟩
    isplitr [H5]
    · isplitl [H0]; · iexact H0
      isplitl [H1]; · iexact H1
      isplitl [H2]; · iexact H2
      isplitl [H3]; · iexact H3
      iexact H4
    iexact H5
  have h2 : iprop((A0 ∗ A1 ∗ A2 ∗ A3 ∗ A4) ∗ A5) ⊢ iprop(A0 ∗ A1 ∗ A2 ∗ A3 ∗ A4 ∗ A5) := by
    iintro ⟨⟨H0, H1, H2, H3, H4⟩, H5⟩
    isplitl [H0]; · iexact H0
    isplitl [H1]; · iexact H1
    isplitl [H2]; · iexact H2
    isplitl [H3]; · iexact H3
    isplitl [H4]; · iexact H4
    iexact H5
  exact BI.equiv_iff.mp ⟨h1, h2⟩

/-- The six arrays whole are the 32 tiles' parts. -/
theorem deal (d : Dev nD) (X : Vec F S16x16384 .f32) (S D : Vec F S2686976 .i32) (V : Vec F S2686976 .f32) (B : Vec F S16384 .f32)
    (f : Vec F S64x16384 .f32) :
    operands d X S D V B f = bigSep Finset.univ fun p : Tile => part d X S D V B f p := by
  unfold operands part inputs
  rw [shares ((SparseCore.T d).loc main_v0) X, shares ((SparseCore.T d).loc main_v3) S, shares ((SparseCore.T d).loc main_v6) D, shares ((SparseCore.T d).loc main_v7) V,
    shares ((SparseCore.T d).loc main_v8) B, rows d f]
  rw [bigSep_sep', bigSep_sep', bigSep_sep', bigSep_sep', bigSep_sep']
  exact regroup _ _ _ _ _ _

end Cert.Proof.KernelIdeal

end
-- ==== Proof.RegionIdeal.lean ====
/-
  The second call, on the TensorCore: the four splits' partial sums added, column block by column block. Its body run
  once at any grid point, its proof data at an entry valuation, what the result array holds afterwards (`summed`), and
  the whole call as one segment of @main over every buffer the host program holds.
-/
module

public import proofs.«01_k».proof.Proof.StepIdeal
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.ValueKit
public import Idealize.ShloMosaic.Lib.VecWindow

@[expose] public section

set_option maxRecDepth 16384

noncomputable section

namespace Cert.Proof.KernelIdeal

open Cert.KernelIdeal Cert.KernelIdeal.Gen Cert.Proof.Model

open Idealize.ShloMosaic Idealize.ShloMosaic.TcCoe
open Idealize.ShloMosaic.SparseCore (S V T)
open Idealize.ShloMosaic.SparseCore.Cfg (HIx Pay)
open Idealize.ShloMosaic.Pipeline (Dat BodyObligation RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body at one point -/

/-- The body loads its block of partial sums, adds over the splits and stores the sums. -/
theorem sum_wp (c : Dev nD) (i : grid1.Coords) (M0 : Memref sig .tc .vmem S4x16x2048 .f32) (h0 : M0.IsWhole)
    (M1 : Memref sig .tc .vmem S16x2048 .f32) (h1 : M1.IsWhole)
    (X : S4x16x2048.Idx → Elt F .f32) (Y : S16x2048.Idx → Elt F .f32) (E : Set ℕ) (Q : PUnit → sProp 𝕄) :
    iprop(owns (T c) M0 fullShare X ∗ owns (T c) M1 fullShare Y
        ∗ (iprop(owns (T c) M0 fullShare X ∗ owns (T c) M1 fullShare (k1_pay1 X)) -∗ Q ⟨⟩))
      ⊢ wp frame (wpE (defs₀ (F := F)) 𝒱₀ (T c) none) E (cc1_body i M0 h0 M1 h1) Q := by
  rw [cc1_body_eq_skeleton]
  unfold cc1_body_skel owns
  iintro ⟨⟨%f0, %hf0, H0⟩, ⟨%f1, -, H1⟩, Hk⟩
  rw [h0.set_eq_univ, h1.set_eq_univ]
  sl_exec
  sl_step
  iapply Hk
  isplitl [H0]
  · iexists f0; isplitr; · ipureintro; exact hf0
    iexact H0
  iexists _; isplitr; swap; · iexact H1
  ipureintro
  rw [View.read_writes_full, View.readAt_eq_ld, View.ld_unit_lit _ _ (by decide), hf0]

/-! ## The call's proof data, at an entry valuation -/

/-- The column block of 2048 entries from column `2048 * k` on, of all the splits' partial sums. -/
def colBlock (Z : S4x16x16384.Idx → Elt F .f32) (k : ℕ) : Vec F S4x16x2048 .f32 :=
  fun y => Z fun | 0 => y 0 | 1 => y 1 | 2 => ⟨(2048 * k + (y 2).val) % 16384, Nat.mod_lt _ (by decide)⟩

/-- The sums over the splits, entry by entry. -/
def summed (Z : S4x16x16384.Idx → Elt F .f32) : S16x16384.Idx → Elt F .f32 :=
  fun j => k1_pay1 (colBlock Z ((j 1).val / 2048)) fun | 0 => j 0 | 1 => ⟨(j 1).val % 2048, Nat.mod_lt _ (by decide)⟩

/-- The pipelines take no prefetched table. -/
abbrev adm (p : Fin 1) : (pcfgs (F := F) p).Adm := (cfgs p).toPCfg_adm

/-- Whatever the call finds in the buffers: the arrays at the valuation, each point's input block as fetched and its
    output block the sums; nothing owed, nothing beside. -/
def dat (W : Valuation τ sig (Elt F)) (c : Dev nD) : Dat τ (Elt F) (HIx 1) ℕ UU ℕ cfg1 c where
  A w := W (Proc.devRef .tc (Pipeline.arrRef spec1 w))
  after w t := match w with
    | ⟨0, _⟩ => colBlock (W (Proc.devRef .tc main_v10)) t.val
    | ⟨1, _⟩ => k1_pay1 (colBlock (W (Proc.devRef .tc main_v10)) t.val)
  Φ _ := Pipeline.scopedRest (Ix := HIx 1) (Name := ℕ) (U := UU) (Lvl := ℕ) (Val := Elt F) spec1 c
  q _ := fullShare
  owed _ := 0

/-- The same as the family the library ranges over. -/
def pdats (W : Valuation τ sig (Elt F)) : (p : Fin 1) → (c : Dev nD) → Dat τ (Elt F) (HIx 1) ℕ UU ℕ (Pipeline.pin (pcfgs (F := F)) adm p) c
  | 0 => dat W

/-- Where each point's blocks lie. -/
theorem index1_0 : ∀ t : Fin grid1.N, win1_0.index t = ![0, 0, t.val] := by decide +kernel
theorem index1_1 : ∀ t : Fin grid1.N, win1_1.index t = ![0, t.val] := by decide +kernel

/-- At each point the staged input is the column block of the partial sums. -/
theorem before_in (W : Valuation τ sig (Elt F)) (c : Dev nD) (t : Fin cfg1.N) (x : (cfg1.win 0).block.Idx → Elt F (cfg1.win 0).elt) :
    (dat W c).before 0 t x = colBlock (W (Proc.devRef .tc main_v10)) t.val := by
  unfold Dat.before
  rw [if_pos (fetch1_0 t)]
  funext y
  show W (Proc.devRef .tc main_v10) ((win1_0.blk t).view.emb y) = _
  unfold colBlock
  congr 1
  have ht : t.val < 8 := t.isLt
  idx_bounds y
  funext a
  fin_cases a <;> apply Fin.ext
  · blk_simp [index1_0]
    rfl
  · blk_simp [index1_0]
    rfl
  · blk_simp [index1_0]
    show t.val * 2048 + (y 2).val = (2048 * t.val + (y 2).val) % 16384
    omega

/-- An entry of the sums lies in the column block of its column. -/
theorem summed_at (Z : S4x16x16384.Idx → Elt F .f32) (k : ℕ) (y : S16x2048.Idx) (j : S16x16384.Idx)
    (h0 : (j 0).val = (y 0).val) (h1 : (j 1).val = 2048 * k + (y 1).val) : summed Z j = k1_pay1 (colBlock Z k) y := by
  have hy : (y 1).val < 2048 := (y 1).isLt
  unfold summed
  rw [show (j 1).val / 2048 = k by omega]
  congr 1
  funext a
  fin_cases a
  · exact Fin.ext h0
  · refine Fin.ext ?_
    show (j 1).val % 2048 = (y 1).val
    omega

/-- The sums' array after the call. -/
theorem arr_out (W : Valuation τ sig (Elt F)) (c : Dev nD) :
    (dat W c).arrAt 1 cfg1.N = summed (W (Proc.devRef .tc main_v10)) := by
  refine (dat W c).arrAt_eq_of_covers 1 _ (by decide +kernel) fun t hf y => ?_
  blk_simp
  exact (summed_at _ t.val y _ (by blk_simp [index1_1]) (by blk_simp [index1_1]; exact Nat.add_right_cancel_iff.mpr (Nat.mul_comm _ _))).symm

/-- At each point the pipeline asks the body for its output block, and gets it. -/
theorem body_obligation (W : Valuation τ sig (Elt F)) (c : Dev nD) :
    BodyObligation (dat W c) (defs₀ (F := F)) 𝒱₀ none Set.univ := fun t => by
  rw [bigSep_W1, bigSep_W1, show (dat W c).Φ t.succ = (dat W c).Φ t.castSucc from rfl,
    show (dat W c).owesAt none t.succ = (dat W c).owesAt none t.castSucc from rfl]
  iintro ⟨HΦ, Howes, ⟨%d0, H0⟩, ⟨%d1, H1⟩⟩
  rw [before_in]
  iapply (sum_wp c (grid1.coords t) (win1_0.stage (cfg1.slots t 0)) (hstage1_0 ((cfg1.slots t 0).cast nbuf1_0))
    (win1_1.stage (cfg1.slots t 1)) (hstage1_1 ((cfg1.slots t 1).cast nbuf1_1)) _ _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-! ## The call as a segment of @main -/

/-- The waits of the call are on the pipeline's own cells, at the lowest level. -/
theorem levelCut : Pipeline.LevelCut (nD := nD) (τ := τ) (pcfgs (F := F)) adm (none : HIx 1) (K (F := F)).L (K (F := F)).lev 0
    (fun _ => (0 : CellTallies nD τ sig (HIx 1))) (fun _ => 0) where
  hι _ _ _ := Finset.mem_univ _
  hιb _ _ _ := le_refl _
  hD _ _ _ h := absurd h (lt_irrefl _)

/-- Nothing rides into the call beside its arrays, and nothing out. -/
theorem beside_in (W : Valuation τ sig (Elt F)) (c : Dev nD) :
    iprop(Pipeline.scopedRest (Pipeline.pin (pcfgs (F := F)) adm 0).spec c ∗ BI.emp) ⊢ (pdats W 0 c).Φ 0 :=
  Laws.sep_emp.mp
theorem beside_out (W : Valuation τ sig (Elt F)) (c : Dev nD) :
    (pdats W 0 c).Φ (Fin.last (Pipeline.pin (pcfgs (F := F)) adm 0).N)
      ⊢ iprop(Pipeline.scopedRest (Pipeline.pin (pcfgs (F := F)) adm 0).spec c ∗ BI.emp) :=
  Laws.sep_emp.mpr

set_option backward.isDefEq.respectTransparency.types false in
/-- The call, entered with every buffer of the host program held at `W`. -/
def reg (W : Valuation τ sig (Elt F)) :
    RegionSeg (nD := nD) (τ := τ) (pcfgs (F := F)) adm (pdats W) (none : HIx 1) (defs₀ (F := F)) 𝒱₀ (K (F := F)).L (K (F := F)).lev 0 :=
  RegionSeg.ofHeldIn (pcfgs (F := F)) adm (pdats W) none defs₀ 𝒱₀ (K (F := F)).L (K (F := F)).lev 0 (fun _ => 0)
    (Pipeline.ucRefs τ sig) (fun _ => BI.emp) (fun _ => BI.emp) launch1.toP rfl (fun c => (body_obligation W c).loose)
    (fun _ _ => rfl) (fun _ => rfl) (fun c => (pdats W 0 c).share_full fun _ => rfl)
    (beside_in W) (beside_out W) (fun _ => 0) levelCut (fun _ => BI.emp) (fun _ => W) (fun _ _ => rfl)

end Cert.Proof.KernelIdeal

end
-- ==== Proof.HostIdeal.lean ====
/-
  The host program around the two calls: its operations as lists, @main as those lists and the calls in order, what every
  buffer holds after each part, and the same in plain terms of the four arguments.
-/
module

public import proofs.«01_k».proof.Proof.RegionIdeal

@[expose] public section

set_option maxRecDepth 16384

noncomputable section

namespace Cert.Proof.KernelIdeal

open Cert.KernelIdeal Cert.KernelIdeal.Gen Cert.Proof.Model

open Idealize.ShloMosaic Idealize.ShloMosaic.TcCoe
open Idealize.SL Idealize.SL.Sem

variable {F : FTy → Type} [FloatOps F]

/-! ## @main in parts -/

/-- The operations before the SparseCore call: the arguments laid out, the edge lists padded. -/
def opsA : List (HloOp τ sig (Elt F)) :=
  [StableHlo.reshape main_arg0 main_v0 (rfl : (.f32 : EltTy) = .f32) shapeCasts_S16x16384x1_S16x16384,
   StableHlo.unary main_arg1 main_v1 ((extractStridedSlice S1x2684354 ![0, 0] · slices_S2x2684354_S1x2684354_0_0) : (⟨S2x2684354, .i32⟩ : BufTy).Contents (Elt F) → (⟨S1x2684354, .i32⟩ : BufTy).Contents (Elt F)),
   StableHlo.reshape main_v1 main_v2 (rfl : (.i32 : EltTy) = .i32) shapeCasts_S1x2684354_S2684354,
   StableHlo.nullary main_c (constantI S_ 32 0#32),
   StableHlo.TRef.unary (.of main_c) (.of main_call0_v0) (id : (⟨S_, .i32⟩ : BufTy).Contents (Elt F) → (⟨S_, .i32⟩ : BufTy).Contents (Elt F)),
   StableHlo.TRef.binary (.of main_v2) (.of main_call0_v0) (.of main_v3) (fun (x : (⟨S2684354, .i32⟩ : BufTy).Contents (Elt F)) (v : (⟨S_, .i32⟩ : BufTy).Contents (Elt F)) => (pad S2686976 ![0] ![2622] ![0] x v pads_S2684354_S2686976_026220 h_S_ : (⟨S2686976, .i32⟩ : BufTy).Contents (Elt F))),
   StableHlo.unary main_arg1 main_v4 ((extractStridedSlice S1x2684354 ![1, 0] · slices_S2x2684354_S1x2684354_1_0) : (⟨S2x2684354, .i32⟩ : BufTy).Contents (Elt F) → (⟨S1x2684354, .i32⟩ : BufTy).Contents (Elt F)),
   StableHlo.reshape main_v4 main_v5 (rfl : (.i32 : EltTy) = .i32) shapeCasts_S1x2684354_S2684354,
   StableHlo.nullary main_c_0 (constantI S_ 32 0#32),
   StableHlo.TRef.unary (.of main_c_0) (.of main_call1_v0) (id : (⟨S_, .i32⟩ : BufTy).Contents (Elt F) → (⟨S_, .i32⟩ : BufTy).Contents (Elt F)),
   StableHlo.TRef.binary (.of main_v5) (.of main_call1_v0) (.of main_v6) (fun (x : (⟨S2684354, .i32⟩ : BufTy).Contents (Elt F)) (v : (⟨S_, .i32⟩ : BufTy).Contents (Elt F)) => (pad S2686976 ![0] ![2622] ![0] x v pads_S2684354_S2686976_026220 h_S_ : (⟨S2686976, .i32⟩ : BufTy).Contents (Elt F))),
   StableHlo.nullary main_c_1 (constantI S_ 32 0#32),
   StableHlo.TRef.unary (.of main_c_1) (.of main_call2_v0) (sitofp .f32 : (⟨S_, .i32⟩ : BufTy).Contents (Elt F) → (⟨S_, .f32⟩ : BufTy).Contents (Elt F)),
   StableHlo.TRef.binary (.of main_arg2) (.of main_call2_v0) (.of main_v7) (fun (x : (⟨S2684354, .f32⟩ : BufTy).Contents (Elt F)) (v : (⟨S_, .f32⟩ : BufTy).Contents (Elt F)) => (pad S2686976 ![0] ![2622] ![0] x v pads_S2684354_S2686976_026220 h_S_ : (⟨S2686976, .f32⟩ : BufTy).Contents (Elt F))),
   StableHlo.reshape main_arg3 main_v8 (rfl : (.f32 : EltTy) = .f32) shapeCasts_S16384x1_S16384]

/-- Between the calls: the 64 rows seen as four splits of sixteen rows. -/
def opsB : List (HloOp τ sig (Elt F)) :=
  [StableHlo.reshape main_v9 main_v10 (rfl : (.f32 : EltTy) = .f32) shapeCasts_S64x16384_S4x16x16384]

/-- After the calls: the sums given their last axis. -/
def opsC : List (HloOp τ sig (Elt F)) :=
  [StableHlo.unary main_v11 main_v12 (broadcastInDim S16x16384x1 ![0, 1] bcast_S16x16384_S16x16384x1_0_1 : (⟨S16x16384, .f32⟩ : BufTy).Contents (Elt F) → (⟨S16x16384x1, .f32⟩ : BufTy).Contents (Elt F))]

/-- @main is its host operations around the two calls. -/
theorem main_eq (d : Dev nD) : main (F := F) d =
    (StableHlo.seq opsA >>= fun _ => (K (F := F)).run d 0 >>= fun _ => StableHlo.seq opsB >>= fun _ =>
      Prog.lift (.customCall (SparseCore.inner (Pipeline.entry 0)) ()) >>= fun _ => StableHlo.seq opsC) := by
  rfl

/-! ## What the buffers hold -/

variable (m : (ℓ : Loc nD τ sig) → Buf (Elt F) ℓ) (d : Dev nD)

/-- At the SparseCore call. -/
def V1 : Valuation τ sig (Elt F) := StableHlo.after opsA (StableHlo.launchContents m d)

abbrev at0 : S16x16384.Idx → Elt F .f32 := V1 m d (Proc.devRef .tc main_v0)
abbrev at3 : S2686976.Idx → Elt F .i32 := V1 m d (Proc.devRef .tc main_v3)
abbrev at6 : S2686976.Idx → Elt F .i32 := V1 m d (Proc.devRef .tc main_v6)
abbrev at7 : S2686976.Idx → Elt F .f32 := V1 m d (Proc.devRef .tc main_v7)
abbrev at8 : S16384.Idx → Elt F .f32 := V1 m d (Proc.devRef .tc main_v8)

/-- What the SparseCore call leaves in the partial sums. -/
def parts : S64x16384.Idx → Elt F .f32 := partials (at0 m d) (at3 m d) (at6 m d) (at7 m d) (at8 m d)

/-- After the SparseCore call; -/
def V2 : Valuation τ sig (Elt F) := Function.update (V1 m d) (Proc.devRef .tc main_v9) (parts m d)
/-- at the TensorCore call; -/
def V3 : Valuation τ sig (Elt F) := StableHlo.after opsB (V2 m d)
/-- after it; -/
def V4 : Valuation τ sig (Elt F) := Pipeline.afterRegion (dat (V3 m d) d) (V3 m d)
/-- and at the end. -/
def V5 : Valuation τ sig (Elt F) := StableHlo.after opsC (V4 m d)

/-! ## The same, in terms of the arguments -/

/-- A row of the edge list, padded by zeros. -/
def padded (A : S2684354.Idx → BitVec 32) : S2686976.Idx → BitVec 32 :=
  pad S2686976 ![0] ![2622] ![0] A (constantI S_ 32 0#32) pads_S2684354_S2686976_026220 h_S_

theorem at0_eq : at0 m d = shapeCast S16x16384 (m (d, Proc.devRef .tc main_arg0)) shapeCasts_S16x16384x1_S16x16384 := by
  unfold at0 V1 opsA
  after_results
  rfl

theorem at3_eq : at3 m d = padded (shapeCast S2684354
    (extractStridedSlice S1x2684354 ![0, 0] (m (d, Proc.devRef .tc main_arg1)) slices_S2x2684354_S1x2684354_0_0) shapeCasts_S1x2684354_S2684354) := by
  unfold at3 V1 opsA padded
  after_results
  rfl

theorem at6_eq : at6 m d = padded (shapeCast S2684354
    (extractStridedSlice S1x2684354 ![1, 0] (m (d, Proc.devRef .tc main_arg1)) slices_S2x2684354_S1x2684354_1_0) shapeCasts_S1x2684354_S2684354) := by
  unfold at6 V1 opsA padded
  after_results
  rfl

theorem at7_eq : at7 m d = pad S2686976 ![0] ![2622] ![0] (m (d, Proc.devRef .tc main_arg2)) (sitofp .f32 (constantI S_ 32 0#32))
    pads_S2684354_S2686976_026220 h_S_ := by
  unfold at7 V1 opsA
  after_results
  rfl

theorem at8_eq : at8 m d = shapeCast S16384 (m (d, Proc.devRef .tc main_arg3)) shapeCasts_S16384x1_S16384 := by
  unfold at8 V1 opsA
  after_results
  rfl

/-- The result at the end. -/
theorem v12_eq : V5 m d (Proc.devRef .tc main_v12)
    = broadcastInDim S16x16384x1 ![0, 1] bcast_S16x16384_S16x16384x1_0_1 (summed (shapeCast S4x16x16384 (parts m d) shapeCasts_S64x16384_S4x16x16384)) := by
  have h11 : V4 m d (Proc.devRef .tc main_v11) = summed (V3 m d (Proc.devRef .tc main_v10)) :=
    (Pipeline.afterRegion_arr (dat (V3 m d) d) (V3 m d) (launch1.win.arr_inj) 1).trans (arr_out (V3 m d) d)
  have h10 : V3 m d (Proc.devRef .tc main_v10) = shapeCast S4x16x16384 (parts m d) shapeCasts_S64x16384_S4x16x16384 := by
    unfold V3 opsB
    after_results
    unfold V2
    rw [Function.update_self]
    rfl
  rw [← h10, ← h11]
  unfold V5 opsC
  after_results

/-- The arguments keep their contents throughout. -/
theorem arg_eq (r : Ref sig .tc) (hr : r = main_arg0 ∨ r = main_arg1 ∨ r = main_arg2 ∨ r = main_arg3) :
    V5 m d (Proc.devRef .tc r) = m (d, Proc.devRef .tc r) := by
  have h4 : V4 m d (Proc.devRef .tc r) = V3 m d (Proc.devRef .tc r) := by
    refine Pipeline.afterRegion_keeps _ _ launch1.win.arr_inj (fun w => rfl) r fun w hw => ?_
    rcases hr with rfl | rfl | rfl | rfl <;> revert hw <;> revert w <;> decide
  have h2 : V2 m d (Proc.devRef .tc r) = V1 m d (Proc.devRef .tc r) := by
    refine Function.update_of_ne (fun h => ?_) _ _
    have := Proc.devRef_injective _ h
    rcases hr with rfl | rfl | rfl | rfl <;> revert this <;> decide
  have h5 : V5 m d (Proc.devRef .tc r) = V4 m d (Proc.devRef .tc r) := by
    unfold V5 opsC
    rcases hr with rfl | rfl | rfl | rfl <;> after_results
  have h3 : V3 m d (Proc.devRef .tc r) = V2 m d (Proc.devRef .tc r) := by
    unfold V3 opsB
    rcases hr with rfl | rfl | rfl | rfl <;> after_results
  have h1 : V1 m d (Proc.devRef .tc r) = m (d, Proc.devRef .tc r) := by
    unfold V1 opsA
    rcases hr with rfl | rfl | rfl | rfl <;> after_results
  rw [h5, h4, h3, h2, h1]

/-! ## The padded lists, entry by entry -/

/-- An entry of a padded list: the list's own, or the padding value past its end. -/
theorem pad_entry {α : Type} (A : S2684354.Idx → α) (v : S_.Idx → α) (z : α) (hz : ∀ u, v u = z) (j : S2686976.Idx) :
    pad S2686976 ![0] ![2622] ![0] A v pads_S2684354_S2686976_026220 h_S_ j
      = if h : (j 0).val < 2684354 then A (fun | 0 => ⟨(j 0).val, h⟩) else z := by
  unfold pad
  by_cases h : (j 0).val < 2684354
  · rw [dif_pos h, dif_pos]
    · congr 1
      funext a
      obtain rfl : a = 0 := Subsingleton.elim _ _
      exact Fin.ext (by show ((j 0).val - 0) / (0 + 1) = (j 0).val; omega)
    · intro a
      obtain rfl : a = 0 := Subsingleton.elim _ _
      exact ⟨Nat.zero_le _, Nat.mod_one _, by show ((j 0).val - 0) / (0 + 1) < 2684354; omega⟩
  · rw [dif_neg h, dif_neg, hz]
    intro hin
    have := (hin 0).2.2
    exact h (by have h' : ((j 0).val - 0) / (0 + 1) < 2684354 := this; omega)

theorem padded_apply (A : S2684354.Idx → BitVec 32) (j : S2686976.Idx) :
    padded A j = if h : (j 0).val < 2684354 then A (fun | 0 => ⟨(j 0).val, h⟩) else 0#32 :=
  pad_entry A _ _ (fun _ => rfl) j

/-- A list that names nodes only still does so padded: the padding names node zero. -/
theorem padded_inRange (A : S2684354.Idx → BitVec 32) (hA : ∀ i, (A i).toNat < 16384) : InRange (padded A) := by
  intro j
  rw [padded_apply]
  split
  · exact hA _
  · decide

/-- What is asked of the launch memory: every entry of the edge list names a node. -/
def PreOK : Prop := ∀ (d : Dev nD) (i : S2x2684354.Idx), ((m (d, Proc.devRef .tc main_arg1) : S2x2684354.Idx → BitVec 32) i).toNat < 16384

theorem at3_inRange (h : PreOK m) : InRange (at3 m d) := by
  rw [at3_eq]
  exact padded_inRange _ fun i => h d _

theorem at6_inRange (h : PreOK m) : InRange (at6 m d) := by
  rw [at6_eq]
  exact padded_inRange _ fun i => h d _

end Cert.Proof.KernelIdeal

end
-- ==== Proof.LaunchIdeal.lean ====
/-
  The whole program run: what passes between the threads at the SparseCore call, each tile's task, the host program
  around the two calls, and the run from any memory whose node indices are in range.
-/
module

public import proofs.«01_k».proof.Proof.DealIdeal
public import proofs.«01_k».proof.Proof.HostIdeal

@[expose] public section

set_option maxRecDepth 16384

noncomputable section

namespace Cert.Proof.KernelIdeal

open Cert.KernelIdeal Cert.KernelIdeal.Gen Cert.Proof.Model

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-! ## The two protocols' ghost state -/

/-- The calls' handshakes; -/
abbrev EH : Emb UH 𝕄 := embL
/-- the pipelined call's copies. -/
abbrev EP : Emb UP 𝕄 := (Emb.inl : Emb UP (UP × Counters)).trans embR

instance EP_landsIn : (EP : Emb UP 𝕄).LandsIn (upEmb : UEmb _ 𝕄) := by unfold EP; infer_instance

variable [FloatOps F]

theorem cells_inj : Function.Injective (Pipeline.cellOf (nD := nD) (τ := τ) (Pipeline.pin (pcfgs (F := F)) adm)) := cellOf_inj

variable (m : (ℓ : Loc nD τ sig) → Buf (Elt F) ℓ) (ρ : Dev nD → PrngReg)

/-! ## What the call's handshakes carry -/

/-- A tile's part before its task, and after. -/
def before (d : Dev nD) (p : Tile) : sProp 𝕄 :=
  part d (at0 m d) (at3 m d) (at6 m d) (at7 m d) (at8 m d) (V1 m d (Proc.devRef .tc main_v9)) p
def behind (d : Dev nD) (p : Tile) : sProp 𝕄 :=
  part d (at0 m d) (at3 m d) (at6 m d) (at7 m d) (at8 m d) (parts m d) p

instance before_storable (d : Dev nD) (p : Tile) : BI.Storable (upEmb : UEmb _ 𝕄) (before m d p) := by
  unfold before part inputs outRows; infer_instance
instance behind_storable (d : Dev nD) (p : Tile) : BI.Storable (upEmb : UEmb _ 𝕄) (behind m d p) := by
  unfold behind part inputs outRows; infer_instance

/-- Each tile takes its part and brings it back; a SparseCore takes its sixteen tiles'. -/
def P : (K (F := F)).Pay (nD := nD) (Val := Elt F) (Name := ℕ) (U := UU) where
  st := fun q d c => match q with | 0 => bigSep Finset.univ fun i : Fin 16 => before m d (c, i)
  dn := fun q d c => match q with | 0 => bigSep Finset.univ fun i : Fin 16 => behind m d (c, i)
  go := fun q d c i => match q with | 0 => before m d (c, i)
  td := fun q d c i => match q with | 0 => behind m d (c, i)
  x := fun _ _ => BI.emp

instance P_storable : (P (F := F) m).IsStorable where
  st q d c := match q with | 0 => (inferInstance : BI.Storable (upEmb : UEmb _ 𝕄) (bigSep Finset.univ fun i : Fin 16 => before m d (c, i)))
  dn q d c := match q with | 0 => (inferInstance : BI.Storable (upEmb : UEmb _ 𝕄) (bigSep Finset.univ fun i : Fin 16 => behind m d (c, i)))
  go q d c i := match q with | 0 => before_storable m d (c, i)
  td q d c i := match q with | 0 => behind_storable m d (c, i)

/-! ## The tiles' tasks -/

theorem bodies_tile (c : Fin τ.nSC) (s : Fin τ.nSub) :
    defs₀ (F := F) (.scVector c s) 0 () = SparseCore.onTile hcore0 hsub0 (fun c s => cc0_spmm (coordsV c s)
      mXs (Memref.isWhole_whole _) mSr (Memref.isWhole_whole _) mDs (Memref.isWhole_whole _) mVl (Memref.isWhole_whole _) mBi (Memref.isWhole_whole _) mOu (Memref.isWhole_whole _)
      mX0 (Memref.isWhole_whole _) mX1 (Memref.isWhole_whole _) mA0 (Memref.isWhole_whole _) mA1 (Memref.isWhole_whole _) mSb (Memref.isWhole_whole _) mDb (Memref.isWhole_whole _) mVb (Memref.isWhole_whole _)
      cc0_scoped0 cc0_scoped1 cc0_scoped2 cc0_scoped3 cc0_scoped4 cc0_scoped5 cc0_scoped6 cc0_scoped7 cc0_scoped8) ⟨⟩ c s := rfl

omit [FloatOps F] in
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right .inl
  iexact HO

theorem tiles_run (hpre : PreOK m) : (K (F := F)).TileObl Bodies 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg Bodies (Pipeline.defs_kernel pcfgs defs₀) 𝒱₀ _ Set.univ none _ _)
  rw [bodies_tile]
  simp only [SparseCore.onTile, hci, and_self, ↓reduceDIte]
  exact (body_wp d (coordsV ⟨_, hci.1⟩ ⟨_, hci.2⟩) scFacts (shareOf (c, i)) (at0 m d) (at3 m d) (at6 m d) (at7 m d) (at8 m d)
    (V1 m d (Proc.devRef .tc main_v9)) (at3_inRange m d hpre) (at6_inRange m d hpre) O W hO).trans (wp_mono frame _ _ fun _ => waits_weaken)

theorem tiles_split : (K (F := F)).VecSplit' (P m) 0 := by
  intro d c
  show (bigSep Finset.univ fun i : Fin 16 => before m d (c, i)) ⊢ |={Set.univ}=> iprop(
    (bigSep Finset.univ fun i : Fin 16 => before m d (c, i))
      ∗ ((bigSep Finset.univ fun i : Fin 16 => behind m d (c, i)) -∗ (bigSep Finset.univ fun i : Fin 16 => behind m d (c, i))))
  iintro H
  imodintro
  isplitl [H]; · iexact H
  iintro H; iexact H

/-! ## The call's arrays out of the host's buffers, and back -/

/-- The SparseCore call's six arrays. -/
def callRefs : Finset (DevRef τ sig) :=
  {Proc.devRef .tc main_v0, Proc.devRef .tc main_v3, Proc.devRef .tc main_v6, Proc.devRef .tc main_v7, Proc.devRef .tc main_v8, Proc.devRef .tc main_v9}

theorem callRefs_sub : callRefs ⊆ Pipeline.ucRefs τ sig := by
  intro b hb
  simp only [callRefs, Finset.mem_insert, Finset.mem_singleton] at hb
  rcases hb with rfl | rfl | rfl | rfl | rfl | rfl <;>
    exact Finset.mem_filter.mpr ⟨StableHlo.devRef_mem_tcRefs _, by decide⟩

theorem held_call (d : Dev nD) (W : Valuation τ sig (Elt F)) :
    (held (SparseCore.T d) callRefs W : sProp 𝕄) = operands d (W (Proc.devRef .tc main_v0)) (W (Proc.devRef .tc main_v3)) (W (Proc.devRef .tc main_v6))
      (W (Proc.devRef .tc main_v7)) (W (Proc.devRef .tc main_v8)) (W (Proc.devRef .tc main_v9)) := by
  unfold held callRefs
  rw [SparseCore.bigSep_insert' (by decide), SparseCore.bigSep_insert' (by decide), SparseCore.bigSep_insert' (by decide),
    SparseCore.bigSep_insert' (by decide), SparseCore.bigSep_insert' (by decide), bigSep_singleton]
  rfl

/-- The host's other buffers during the call. -/
def rest (d : Dev nD) : sProp 𝕄 := held (SparseCore.T d) (Pipeline.ucRefs τ sig \ callRefs) (V1 m d)

theorem held_before (d : Dev nD) : (held (SparseCore.T d) (Pipeline.ucRefs τ sig) (V1 m d) : sProp 𝕄)
    = iprop((bigSep Finset.univ fun c : Fin 2 => bigSep Finset.univ fun i : Fin 16 => before m d (c, i)) ∗ rest m d) := by
  rw [StableHlo.held_sub_split (SparseCore.T d) callRefs_sub, held_call, deal, bigSep_univ_prod]
  rfl

theorem held_behind (d : Dev nD) : (held (SparseCore.T d) (Pipeline.ucRefs τ sig) (V2 m d) : sProp 𝕄)
    = iprop((bigSep Finset.univ fun c : Fin 2 => bigSep Finset.univ fun i : Fin 16 => behind m d (c, i)) ∗ rest m d) := by
  have off : ∀ b ∈ Pipeline.ucRefs τ sig \ callRefs, V2 m d b = V1 m d b := fun b hb =>
    Function.update_of_ne (fun h => (Finset.mem_sdiff.mp hb).2 (by rw [h]; decide)) _ _
  have keep : ∀ r : Ref sig .tc, r ≠ main_v9 → V2 m d (Proc.devRef .tc r) = V1 m d (Proc.devRef .tc r) := fun r h =>
    Function.update_of_ne (fun e => h (Proc.devRef_injective .tc e)) _ _
  rw [StableHlo.held_sub_split (SparseCore.T d) callRefs_sub, held_call, StableHlo.held_congr (SparseCore.T d) off,
    keep main_v0 (by decide), keep main_v3 (by decide), keep main_v6 (by decide), keep main_v7 (by decide), keep main_v8 (by decide),
    show V2 m d (Proc.devRef .tc main_v9) = parts m d from Function.update_self _ _ _, deal, bigSep_univ_prod]
  rfl

/-! ## The host program -/

theorem opsA_bufs : ∀ op ∈ opsA (F := F), op.bufs ⊆ Pipeline.ucRefs τ sig := by
  intro op h
  have all : (opsA (F := F)).Forall fun op => op.bufs ⊆ StableHlo.tcRefs τ sig :=
    ⟨StableHlo.reshape_bufs_sub .., StableHlo.unary_bufs_sub .., StableHlo.reshape_bufs_sub .., StableHlo.nullary_bufs_sub .., StableHlo.unary_bufs_sub ..,
      StableHlo.binary_bufs_sub .., StableHlo.unary_bufs_sub .., StableHlo.reshape_bufs_sub .., StableHlo.nullary_bufs_sub .., StableHlo.unary_bufs_sub ..,
      StableHlo.binary_bufs_sub .., StableHlo.nullary_bufs_sub .., StableHlo.unary_bufs_sub .., StableHlo.binary_bufs_sub .., StableHlo.reshape_bufs_sub ..⟩
  exact Pipeline.sub_ucRefs op ((List.forall_iff_forall_mem.mp all) op h)

theorem opsB_bufs : ∀ op ∈ opsB (F := F), op.bufs ⊆ Pipeline.ucRefs τ sig := by
  intro op h
  obtain rfl := List.mem_singleton.mp h
  exact Pipeline.sub_ucRefs _ (StableHlo.reshape_bufs_sub ..)

theorem opsC_bufs : ∀ op ∈ opsC (F := F), op.bufs ⊆ Pipeline.ucRefs τ sig := by
  intro op h
  obtain rfl := List.mem_singleton.mp h
  exact Pipeline.sub_ucRefs _ (StableHlo.unary_bufs_sub ..)

theorem opsA_fresh : ∀ op ∈ opsA (F := F), op.fresh = ∅ := by
  intro _ h; (repeat (cases h with | head => rfl | tail _ h => ?_)); exact nomatch h
theorem opsB_fresh : ∀ op ∈ opsB (F := F), op.fresh = ∅ := by
  intro _ h; (repeat (cases h with | head => rfl | tail _ h => ?_)); exact nomatch h
theorem opsC_fresh : ∀ op ∈ opsC (F := F), op.fresh = ∅ := by
  intro _ h; (repeat (cases h with | head => rfl | tail _ h => ?_)); exact nomatch h

/-- After the one SparseCore call the TensorCore owes nothing, and whatever it has waited for lies below the calls to come. -/
theorem state_out (d : Dev nD) : (K (F := F)).tcSt (Val := Elt F) (Name := ℕ) (U := UU) EH d 1
    ⊢ iprop((∃ Wd, owes (SparseCore.T d) (0 : CellTallies nD τ sig (HIx 1)) Wd)
        ∗ ((∃ Wd, owes (SparseCore.T d) (0 : CellTallies nD τ sig (HIx 1)) Wd) -∗ (K (F := F)).tcSt EH d 1)) := by
  unfold SparseCore.Cfg.tcSt
  rw [(K (F := F)).Otc_end d (le_refl 1)]
  iintro ⟨⟨%W, -, HO⟩, Hrest⟩
  isplitl [HO]
  · iexists W; iexact HO
  iintro ⟨%Wd, HO⟩
  isplitl [HO]
  · iexists Wd
    isplitr
    · ipureintro
      intro p _
      rcases hp : p.2 with _ | q
      · exact Nat.zero_le _
      · obtain rfl : q = 0 := Subsingleton.elim _ _
        exact ((K (F := F)).lev_le_of_blk (q := 0) (show SparseCore.Cfg.Blocks.blk 0 (some 0) from rfl)).trans (by decide)
    iexact HO
  iexact Hrest

/-- The pipelined call's ghost state on a device. -/
def pipeGhost (d : Dev nD) : sProp 𝕄 :=
  iprop(Pipeline.cellsGhost (Pipeline.pin (pcfgs (F := F)) adm) EP 0 d ∗ Pipeline.toksInit (Pipeline.pin (pcfgs (F := F)) adm) EP 0 d)

theorem arrays_sub : Pipeline.arrRefs (τ := τ) ((pcfgs (F := F)) 0).spec ⊆ Pipeline.ucRefs τ sig :=
  Pipeline.arrRefs_sub_ucRefs _ fun w => match w with | 0 => rfl | 1 => rfl

set_option backward.isDefEq.respectTransparency.types false in
theorem region_pre (W : Valuation τ sig (Elt F)) (d : Dev nD) :
    iprop(held (d.tc : Thread nD τ) (Pipeline.ucRefs τ sig) W
      ∗ ((∃ Wd, owes (d : Thread nD τ) ((fun _ => 0 : Dev nD → CellTallies nD τ sig (HIx 1)) d) Wd) ∗ (fun _ => BI.emp : Dev nD → sProp 𝕄) d ∗ (fun _ => BI.emp : Dev nD → sProp 𝕄) d))
      ⊢ (reg W).pre d := by
  exact Pipeline.RegionSeg.ofHeldIn_pre (pcs := pcfgs (F := F)) (a := adm) (pdats := pdats W) (p := 0) (S := Pipeline.ucRefs τ sig) (D := fun _ => 0)
    (X := fun _ => BI.emp) (Y := fun _ => BI.emp) (R := fun _ => BI.emp) (W := fun _ => W) arrays_sub d

set_option backward.isDefEq.respectTransparency.types false in
theorem region_post (W : Valuation τ sig (Elt F)) (d : Dev nD) :
    (reg W).post d ⊢ iprop(held (d.tc : Thread nD τ) (Pipeline.ucRefs τ sig) (Pipeline.afterRegion (pdats W 0 d) W)
      ∗ ((∃ Wd, owes (d : Thread nD τ) ((fun _ => 0 : Dev nD → CellTallies nD τ sig (HIx 1)) d) Wd) ∗ (fun _ => BI.emp : Dev nD → sProp 𝕄) d ∗ (fun _ => BI.emp : Dev nD → sProp 𝕄) d)) := by
  exact Pipeline.RegionSeg.ofHeldIn_post (pcs := pcfgs (F := F)) (a := adm) (pdats := pdats W) (p := 0) (S := Pipeline.ucRefs τ sig) (D := fun _ => 0)
    (X := fun _ => BI.emp) (Y := fun _ => BI.emp) (R := fun _ => BI.emp) (W := fun _ => W) arrays_sub d

/-- The pipelined call under the kernels' bodies alone. -/
theorem entry_wp (W : Valuation τ sig (Elt F)) (d : Dev nD) (Q : PUnit.{1} → sProp 𝕄) :
    iprop(iprop(boundary (d.tc : Thread nD τ) ∗ (reg W).post d -∗ wp frame (wpE Bodies 𝒱 (d.tc : Thread nD τ) none) Set.univ (.ret ⟨⟩) Q)
        ∗ boundary (d.tc : Thread nD τ) ∗ (reg W).pre d ∗ levAts (K (F := F)).L (K (F := F)).lev ∗ pipeGhost d)
      ⊢ wp frame (wpE Bodies 𝒱 (d.tc : Thread nD τ) none) Set.univ (.op (.customCall (Pipeline.entry 0) ()) fun u => .ret u) Q := by
  have h := Pipeline.RegionSeg.wp (pcfgs (F := F)) adm (pdats W) none cells_inj EP (defs₀ (F := F)) 𝒱₀ (K (F := F)).L (K (F := F)).lev
    (reg W) d none (fun _ h => nomatch h) (fun u => .ret u) Q
  exact h

theorem after_call (W : Valuation τ sig (Elt F)) (d : Dev nD) : Pipeline.afterRegion (pdats W 0 d) W = Pipeline.afterRegion (dat W d) W := rfl

/-- The same with the host's buffers: from `W` to what the call leaves. -/
theorem call_wp (W : Valuation τ sig (Elt F)) (d : Dev nD) (Q : PUnit.{1} → sProp 𝕄) :
    iprop(levAts (K (F := F)).L (K (F := F)).lev ∗ boundary (d.tc : Thread nD τ) ∗ held (d.tc : Thread nD τ) (Pipeline.ucRefs τ sig) W
        ∗ (∃ Wd, owes (d.tc : Thread nD τ) (0 : CellTallies nD τ sig (HIx 1)) Wd) ∗ pipeGhost d
        ∗ ((boundary (d.tc : Thread nD τ) ∗ held (d.tc : Thread nD τ) (Pipeline.ucRefs τ sig) (Pipeline.afterRegion (dat W d) W)
              ∗ (∃ Wd, owes (d.tc : Thread nD τ) (0 : CellTallies nD τ sig (HIx 1)) Wd)) -∗ Q ⟨⟩))
      ⊢ wp frame (wpE Bodies 𝒱 (d.tc : Thread nD τ) none) Set.univ (.op (.customCall (Pipeline.entry 0) ()) fun u => .ret u) Q := by
  iintro ⟨HL, Hb, Hh, HO, HG, Hk⟩
  iapply (entry_wp W d Q)
  isplitl [Hk]
  · iintro ⟨Hb, Hpost⟩
    rw [wp_ret]
    imodintro
    iapply Hk
    isplitl [Hb]; · iexact Hb
    ihave H := (region_post W d) $$ Hpost
    rw [after_call]
    icases H with ⟨Hh, HO, -⟩
    isplitl [Hh]; · iexact Hh
    iexact HO
  isplitl [Hb]; · iexact Hb
  isplitl [Hh HO]
  · iapply (region_pre W d)
    isplitl [Hh]; · iexact Hh
    isplitl [HO]; · iexact HO
    isplitr <;> iempintro
  isplitl [HL]; · iexact HL
  iexact HG

/-- The same as the program names it. -/
theorem region_wp (d : Dev nD) (Q : PUnit.{1} → sProp 𝕄) :
    iprop(levAts (K (F := F)).L (K (F := F)).lev ∗ boundary (d.tc : Thread nD τ) ∗ held (d.tc : Thread nD τ) (Pipeline.ucRefs τ sig) (V3 m d)
        ∗ (∃ Wd, owes (d.tc : Thread nD τ) (0 : CellTallies nD τ sig (HIx 1)) Wd) ∗ pipeGhost d
        ∗ ((boundary (d.tc : Thread nD τ) ∗ held (d.tc : Thread nD τ) (Pipeline.ucRefs τ sig) (V4 m d)
              ∗ (∃ Wd, owes (d.tc : Thread nD τ) (0 : CellTallies nD τ sig (HIx 1)) Wd)) -∗ Q ⟨⟩))
      ⊢ wp frame (wpE ((K (F := F)).defs Bodies) 𝒱 (d.tc : Thread nD τ) none) Set.univ (Prog.lift (.customCall (SparseCore.inner (Pipeline.entry 0)) ())) Q :=
  (call_wp (V3 m d) d Q).trans
    ((K (F := F)).wp_liftProg Bodies 𝒱 (d.tc : Thread nD τ) Set.univ none (.op (.customCall (Pipeline.entry 0) ()) fun u => .ret u) Q)

/-- What the TensorCore ends with: every host buffer, at the program's end. -/
def atEnd (d : Dev nD) : sProp 𝕄 := held (SparseCore.T d) (Pipeline.ucRefs τ sig) (V5 m d)

/-- @main on the TensorCore. -/
theorem main_wp (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs Bodies) 𝒱 (SparseCore.T d) none) Set.univ (main d)
          fun _ => iprop((K (F := F)).tcSt EH d 1 ∗ atEnd m d ∗ (K (F := F)).tcEnd d) := by
  unfold SparseCore.Cfg.tcRes SparseCore.Cfg.tcEnd
  rw [main_eq, show (unscopedBufs d (fun b => m ((SparseCore.T d).loc b)) : sProp 𝕄)
      = held (SparseCore.T d) (Pipeline.ucRefs τ sig) (StableHlo.launchContents m d) from Pipeline.unscopedBufs_held d (StableHlo.launchContents m d)]
  iintro ⟨#Hctx, Hst, ⟨Hb, Hh, Hts, -⟩, HG⟩
  iapply (StableHlo.wp_seq 𝒱 none Set.univ d (Pipeline.ucRefs τ sig) _ opsA opsA_bufs opsA_fresh (StableHlo.launchContents m d)) $$ [Hb Hh]
  · isplitl [Hb]; · iexact Hb
    iexact Hh
  iintro ⟨Hb, Hh⟩
  rw [wp_bind]
  iapply ((K (F := F)).wp_run Bodies 𝒱 (EH := EH) (P := P m) κ d 0) $$ [Hst Hh Hb Hts HG]
  isplitr; · iexact Hctx
  isplitl [Hst]; · iexact Hst
  ihave H := (Entails.of_eq (show (held (d.tc : Thread nD τ) (Pipeline.ucRefs τ sig) (StableHlo.after opsA (StableHlo.launchContents m d)) : sProp 𝕄) = _ from held_before m d)) $$ Hh
  icases H with ⟨Hp, Hr⟩
  isplitl [Hp]; · iexact Hp
  iintro ⟨Hst, Hp⟩
  ihave Hh := (Entails.of_eq (held_behind m d).symm) $$ [Hp Hr]
  · isplitl [Hp]; · iexact Hp
    iexact Hr
  iapply (StableHlo.wp_seq 𝒱 none Set.univ d (Pipeline.ucRefs τ sig) _ opsB opsB_bufs opsB_fresh (V2 m d)) $$ [Hb Hh]
  · isplitl [Hb]; · iexact Hb
    iexact Hh
  iintro ⟨Hb, Hh⟩
  rw [wp_bind]
  ihave H := (show (K (F := F)).tcSt (Val := Elt F) (Name := ℕ) (U := UU) EH d ((0 : Fin 1).val + 1) ⊢ _ from state_out d) $$ Hst
  icases H with ⟨HO, Hst⟩
  ihave HL := (SparseCore.Cfg.ctx_levAts κ) $$ Hctx
  iapply (region_wp m d) $$ [HL Hb Hh HO HG Hst Hts]
  isplitl [HL]; · iexact HL
  isplitl [Hb]; · iexact Hb
  isplitl [Hh]; · iexact Hh
  isplitl [HO]; · iexact HO
  isplitl [HG]; · iexact HG
  iintro ⟨Hb, Hh, HO⟩
  ihave Hst := Hst $$ HO
  rw [show (StableHlo.seq (opsC (F := F)) : Prog (TpuEff nD τ sig (Elt F) _ .tc) PUnit) = (StableHlo.seq (opsC (F := F)) >>= pure) from (bind_pure _).symm]
  iapply (StableHlo.wp_seq 𝒱 none Set.univ d (Pipeline.ucRefs τ sig) _ opsC opsC_bufs opsC_fresh (V4 m d)) $$ [Hb Hh]
  · isplitl [Hb]; · iexact Hb
    iexact Hh
  iintro ⟨Hb, Hh⟩
  rw [wp_pure]
  imodintro
  isplitl [Hst]; · iexact Hst
  ihave Hh := (Entails.of_eq (show (held (d.tc : Thread nD τ) (Pipeline.ucRefs τ sig) (StableHlo.after opsC (V4 m d)) : sProp 𝕄) = atEnd m d from rfl)) $$ Hh
  isplitl [Hh]; · iexact Hh
  isplitl [Hb]; · iexact Hb
  iexact Hts

/-! ## The launch's ghost state -/

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem ghost_dealt : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun t : Thread nD τ => bigSep Finset.univ fun q : Fin 1 => (P m).x q t) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), 1) : UP × Counters)) $$ Hu
  icases H with ⟨HH, HR⟩
  ihave H := (own_pair_emb (embR : Emb (UP × Counters) 𝕄)
    (initOf (Pipeline.cells (Pipeline.pin (pcfgs (F := F)) adm) cells_inj) (Pipeline.launchToks (Pipeline.pin (pcfgs (F := F)) adm) cells_inj)) (1 : Counters)) $$ HR
  icases H with ⟨HP, -⟩
  imod (Pipeline.fund_ghost (Pipeline.pin (pcfgs (F := F)) adm) EP cells_inj) $$ HP with ⟨Hc, Ht⟩
  imodintro
  isplitl [HH]; · iexact HH
  isplitl [Hc Ht]
  · unfold pipeGhost
    rw [bigSep_sep']
    isplitl [Hc]
    · rw [show (bigSep Finset.univ fun d : Dev nD => Pipeline.cellsGhost (Pipeline.pin (pcfgs (F := F)) adm) EP 0 d)
          = (bigSep Finset.univ fun d : Dev nD => bigSep Finset.univ fun p : Fin 1 => Pipeline.cellsGhost (Pipeline.pin (pcfgs (F := F)) adm) EP p d) from
        bigSep_congr fun _ _ => (bigSep_univ_of_subsingleton (Φ := fun p : Fin 1 => Pipeline.cellsGhost (Pipeline.pin (pcfgs (F := F)) adm) EP p _) (0 : Fin 1)).symm]
      iexact Hc
    · rw [show (bigSep Finset.univ fun d : Dev nD => (Pipeline.toksInit (Pipeline.pin (pcfgs (F := F)) adm) EP 0 d : sProp 𝕄))
          = (bigSep Finset.univ fun d : Dev nD => bigSep Finset.univ fun p : Fin 1 => Pipeline.toksInit (Pipeline.pin (pcfgs (F := F)) adm) EP p d) from
        bigSep_congr fun _ _ => (bigSep_univ_of_subsingleton (Φ := fun p : Fin 1 => (Pipeline.toksInit (Pipeline.pin (pcfgs (F := F)) adm) EP p _ : sProp 𝕄)) (0 : Fin 1)).symm]
      iexact Ht
  rw [show (bigSep Finset.univ fun t : Thread nD τ => bigSep Finset.univ fun q : Fin 1 => (P (F := F) m).x q t) = bigSep Finset.univ fun _ => BI.emp from
    bigSep_congr fun _ _ => bigSep_univ_of_subsingleton (0 : Fin 1), bigSep_emp_const]
  iempintro

/-! ## The run -/

/-- Every host buffer at the program's end, and no semaphore counting. -/
def Done : PUnit × MemSt nD τ sig (Elt F) → Prop := fun r =>
  (∀ d : Dev nD, ∀ b ∈ Pipeline.ucRefs τ sig, r.2.mem (d, b) = V5 m d b) ∧ r.2.sem = fun _ => 0

theorem read_end (d : Dev nD) (s' : Phys nD τ sig (Elt F)) :
    iprop(atEnd m d ∗ SI s') ⊢ (⌜∀ b ∈ Pipeline.ucRefs τ sig, s'.mem.mem (d, b) = V5 m d b⌝ : sProp 𝕄) := by
  unfold atEnd held
  iintro ⟨H, HSI⟩
  ihave %h := (SI_pointsTo_bufs_agree (qs := fun _ => fullShare) (Pipeline.ucRefs τ sig)) $$ [HSI H]
  · isplitl [HSI]; · iexact HSI
    iexact H
  ipureintro
  exact h

theorem run_main (hpre : PreOK m) : θ_run (Cert.KernelIdeal.defs (F := F)) (Cert.KernelIdeal.threads (F := F)) ⟨m, fun _ => 0, ρ⟩ (Done m) :=
  SparseCore.Cfg.θ_run_sc_quiescent (K := K (F := F)) (D := Bodies) (𝒱 := 𝒱) (EH := EH) (P := P m) (A := ∅) scFacts v₀
    (fun q hq => match q with | 0 => nomatch hq)
    (fun q _ => match q with | 0 => tiles_run m hpre)
    (fun q _ => match q with | 0 => SparseCore.Cfg.VecSplit.of_plain (tiles_split m))
    m ρ main (fun d => pipeGhost d) (atEnd m) (u₀ (F := F)) (sep_elim_left.trans (ghost_dealt m)) (main_wp m ρ)
    (fun d s' => ∀ b ∈ Pipeline.ucRefs τ sig, s'.mem.mem (d, b) = V5 m d b) (read_end m) (Done m) (fun _ h hz => ⟨h, hz⟩)

end Cert.Proof.KernelIdeal

end
-- ==== Proof.FramesIdeal.lean ====
/-
  The launch's run under the precondition, read at the arguments and at the result.
-/
module

public import proofs.«01_k».proof.Defs
public import proofs.«01_k».proof.Proof.LaunchIdeal
public import proofs.«01_k».proof.Proof.Pre

@[expose] public section

noncomputable section

namespace Cert.Proof.KernelIdeal

open Cert.KernelIdeal Cert.KernelIdeal.Gen
open Idealize.ShloMosaic Idealize.SL.Sem

variable {F : FTy → Type} [FloatOps F]

/-- The predicate on the arguments of every device is what the launch asks of the index array. -/
theorem preOK_of (m : (ℓ : Loc nD τ sig) → Buf (Elt F) ℓ)
    (h : ∀ c : Dev nD, Cert.Pre_in_range.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : PreOK m :=
  fun d i => range_of_pre _ _ _ _ (h d) i

/-- A run that is done leaves the arguments as they were. -/
theorem done_args {m : (ℓ : Loc nD τ sig) → Buf (Elt F) ℓ} {r : PUnit × MemSt nD τ sig (Elt F)} (h : Done m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c _ (Finset.mem_filter.mpr ⟨StableHlo.devRef_mem_tcRefs main_arg0, by decide⟩)).trans (arg_eq m c main_arg0 (by decide)),
   (h.1 c _ (Finset.mem_filter.mpr ⟨StableHlo.devRef_mem_tcRefs main_arg1, by decide⟩)).trans (arg_eq m c main_arg1 (by decide)),
   (h.1 c _ (Finset.mem_filter.mpr ⟨StableHlo.devRef_mem_tcRefs main_arg2, by decide⟩)).trans (arg_eq m c main_arg2 (by decide)),
   (h.1 c _ (Finset.mem_filter.mpr ⟨StableHlo.devRef_mem_tcRefs main_arg3, by decide⟩)).trans (arg_eq m c main_arg3 (by decide))⟩

/-- A run that is done leaves the result the launch's last valuation gives. -/
theorem done_out {m : (ℓ : Loc nD τ sig) → Buf (Elt F) ℓ} {r : PUnit × MemSt nD τ sig (Elt F)} (h : Done m r) (c : Dev nD) :
    r.2.mem ((c.tc : Thread nD τ).loc main_v12) = V5 m c (Proc.devRef .tc main_v12) :=
  h.1 c (Proc.devRef .tc main_v12) (Finset.mem_filter.mpr ⟨StableHlo.devRef_mem_tcRefs main_v12, by decide⟩)

end Cert.Proof.KernelIdeal

end
-- ==== Proof.Sums.lean ====
/-
  Over the extended reals an accumulator is its start plus a sum: each edge that points at a node adds the value at the
  edge's source times the edge's weight. The order of the additions, the groups of sixteen and the four splits do not matter.
-/
module

public import proofs.«01_k».proof.Proof.Model
public import Idealize.ShloMosaic.PureOps.Ideal
public import Mathlib.Algebra.BigOperators.Fin
public import Mathlib.Algebra.BigOperators.Intervals

@[expose] public section

noncomputable section

namespace Cert.Proof.Model

open Idealize.ShloMosaic
open scoped BigOperators

/-- The node a word names (modulo the number of nodes, so that there always is one). -/
def node (w : BitVec 32) : Row.Idx := Shape.ofLane (d := ![16384]) ⟨w.toNat % 16384, Nat.mod_lt _ (by decide)⟩

/-- What edge `n` adds at node `j`. -/
def hit (X : Row.Idx → EReal) (S D : Edge.Idx → BitVec 32) (V : Edge.Idx → EReal) (j : Row.Idx) (n : ℕ) : EReal :=
  if (edge D n).toNat = (j 0).val then X (node (edge S n)) * edge V n else 0

/-- Two indices of a row are equal as soon as their coordinates are. -/
theorem row_ext {i j : Row.Idx} (h : (i 0).val = (j 0).val) : i = j := by
  funext a
  obtain rfl : a = 0 := Subsingleton.elim _ _
  exact Fin.ext h

/-- What lane `k` of a scatter of `v` at `d` adds at node `j`. -/
def laneHit (d : IVec Lane 32) (v : Vec Ideal Lane .f32) (j : Row.Idx) (k : Fin 16) : EReal :=
  if (d (Shape.ofLane (d := ![16]) k)).toNat = (j 0).val then v (Shape.ofLane (d := ![16]) k) else 0

/-- Sixteen lanes scattered with addition: each element gets the sum of the lanes that name it. -/
theorem storeIdx_at (acc : Vec Ideal Row .f32) (d : IVec Lane 32) (v : Vec Ideal Lane .f32)
    (h : ∀ (a : Fin 1) (x : Lane.Idx), ((![d] : Fin 1 → IVec Lane 32) a x).toNat < Row.size a) (j : Row.Idx) :
    (storeIdx acc ![d] v (fun _ => 1#1) true h j : EReal) = (acc j : EReal) + ∑ k : Fin 16, laneHit d v j k := by
  let lane : Vec Ideal Row .f32 → Fin 16 → Vec Ideal Row .f32 := fun g k =>
    let x := Shape.ofLane (d := ![16]) k
    if (fun _ => 1#1 : IVec Lane 1) x = 1 then
      let i := idxAt ![d] h x
      let y := if true then Elt.idxAdd .f32 (g i) (v x) else v x
      fun j => if (∀ a, (j a).val = (i a).val) then y else g j
    else g
  have one : ∀ (g : Vec Ideal Row .f32) (k : Fin 16), (lane g k j : EReal) = (g j : EReal) + laneHit d v j k := by
    intro g k
    unfold laneHit
    by_cases hk : (d (Shape.ofLane (d := ![16]) k)).toNat = (j 0).val
    · have hj : idxAt ![d] h (Shape.ofLane (d := ![16]) k) = j := row_ext hk
      rw [if_pos hk]
      show (if (∀ a, (j a).val = (idxAt ![d] h (Shape.ofLane (d := ![16]) k) a).val)
        then ((g (idxAt ![d] h (Shape.ofLane (d := ![16]) k)) : EReal) + v (Shape.ofLane (d := ![16]) k)) else (g j : EReal)) = _
      rw [hj, if_pos fun _ => rfl]
    · rw [if_neg hk, add_zero]
      exact if_neg fun hall => hk (hall 0).symm
  have key : ∀ (l : List (Fin 16)) (acc : Vec Ideal Row .f32),
      (l.foldl lane acc j : EReal) = (acc j : EReal) + (l.map (laneHit d v j)).sum := by
    intro l
    induction l with
    | nil => intro acc; exact (add_zero _).symm
    | cons k l ih =>
      intro acc
      refine (ih (lane acc k)).trans ?_
      rw [one, List.map_cons, List.sum_cons, add_assoc]
  exact (key (List.finRange 16) acc).trans (congrArg _ (Fin.sum_univ_def _).symm)

/-- One step on sixteen edges. -/
theorem grp_at (X : Vec Ideal Row .f32) {S D : Edge.Idx → BitVec 32} (V : Vec Ideal Edge .f32) (hS : InRange S) (hD : InRange D)
    (acc : Vec Ideal Row .f32) (e : ℕ) (j : Row.Idx) :
    (grp X (lanes S e) (lanes D e) (lanes V e) acc j : EReal) = (acc j : EReal) + ∑ i ∈ Finset.range 16, hit X S D V j (e + i) := by
  unfold grp
  rw [dif_pos ⟨named_lanes hS e, named_lanes hD e⟩]
  refine (storeIdx_at acc _ _ _ j).trans (congrArg _ ((Finset.sum_congr rfl fun k _ => ?_).trans (Finset.sum_range _).symm))
  unfold laneHit hit
  refine if_congr Iff.rfl ?_ rfl
  show (X _ : EReal) * _ = _
  refine congrArg (fun i => (X i : EReal) * _) (row_ext ?_)
  show (edge S (e + k.val)).toNat = (edge S (e + k.val)).toNat % 16384
  exact (Nat.mod_eq_of_lt (hS _)).symm

/-- The accumulator after `n` steps. -/
theorem accN_at (X : Vec Ideal Row .f32) {S D : Edge.Idx → BitVec 32} (V : Vec Ideal Edge .f32) (hS : InRange S) (hD : InRange D)
    (init : Vec Ideal Row .f32) (e n : ℕ) (j : Row.Idx) :
    (accN X S D V init e n j : EReal) = (init j : EReal) + ∑ i ∈ Finset.range (16 * n), hit X S D V j (e + i) := by
  induction n with
  | zero => simp [accN]
  | succ n ih =>
    rw [accN, grp_at X V hS hD, ih, Nat.mul_succ, Finset.sum_range_add, add_assoc]
    simp only [Nat.add_assoc]

theorem zeroRow_at (j : Row.Idx) : (zeroRow (F := Ideal) j : EReal) = 0 := by
  show Ideal.ofBits .f32 0x00000000#32 = 0
  simp [Ideal.ofBits, Ideal.ieee]

/-- Row `16 * k + r` of the partial sums: row `r` of the node values, along the edges of split `k`. -/
theorem partialRow_at (X : Vec Ideal Rows .f32) {S D : Edge.Idx → BitVec 32} (V : Vec Ideal Edge .f32) (B : Vec Ideal Row .f32)
    (hS : InRange S) (hD : InRange D) (k r : ℕ) (hr : r < 16) (j : Row.Idx) :
    (partialRow X S D V B (16 * k + r) j : EReal)
      = (start B k j : EReal) + ∑ i ∈ Finset.range splitLen, hit (rowOf X r) S D V j (splitLen * k + i) := by
  have h1 : (16 * k + r) / 16 = k := by omega
  have h2 : rowOf X (16 * k + r) = rowOf X r := by
    unfold rowOf
    simp only [show (16 * k + r) % 16 = r % 16 by omega]
  unfold partialRow
  rw [h1, h2, accN_at _ _ hS hD, show 16 * splitSteps = splitLen from rfl]

/-- A sum over four stretches of one length, one after the other. -/
theorem four_ranges (f : ℕ → EReal) (n : ℕ) :
    ∑ k : Fin 4, ∑ i ∈ Finset.range n, f (n * k.val + i) = ∑ i ∈ Finset.range (n + n + n + n), f i := by
  rw [Fin.sum_univ_four, Finset.sum_range_add, Finset.sum_range_add, Finset.sum_range_add]
  have h2 : n * 2 = n + n := by omega
  have h3 : n * 3 = n + n + n := by omega
  show ∑ i ∈ Finset.range n, f (n * 0 + i) + ∑ i ∈ Finset.range n, f (n * 1 + i) + ∑ i ∈ Finset.range n, f (n * 2 + i)
    + ∑ i ∈ Finset.range n, f (n * 3 + i) = _
  simp only [h2, h3, Nat.mul_zero, Nat.zero_add, Nat.mul_one]

/-- The four splits' rows together: the bias and every edge. -/
theorem splits_sum (X : Vec Ideal Rows .f32) {S D : Edge.Idx → BitVec 32} (V : Vec Ideal Edge .f32) (B : Vec Ideal Row .f32)
    (hS : InRange S) (hD : InRange D) (r : ℕ) (hr : r < 16) (j : Row.Idx) :
    ∑ k : Fin 4, (partialRow X S D V B (16 * k.val + r) j : EReal)
      = (B j : EReal) + ∑ n ∈ Finset.range (splitLen + splitLen + splitLen + splitLen), hit (rowOf X r) S D V j n := by
  simp only [partialRow_at X V B hS hD _ r hr j]
  have hz : ∀ k : ℕ, k ≠ 0 → (start B k j : EReal) = 0 := fun k hk => by
    unfold start
    rw [if_neg hk]
    exact zeroRow_at j
  rw [Finset.sum_add_distrib, four_ranges, Fin.sum_univ_four, show (start B (0 : Fin 4).val j : EReal) = B j from rfl, hz _ (by decide),
    hz _ (by decide), hz _ (by decide), add_zero, add_zero, add_zero]

end Cert.Proof.Model

end
-- ==== Proof.Product.lean ====
/-
  The mathematics of the problem: a sparse matrix, given as a list of edges, times sixteen vectors, plus a bias. Entry `j`
  of output `r` is the bias of `j` plus the sum, over the edges that point at `j`, of the input's entry at the edge's source
  times the edge's weight.
-/
module

public import Idealize.ShloMosaic.PureOps.Ideal
public import Idealize.ShloMosaic.Lib.ValueIdxCore

@[expose] public section

noncomputable section

namespace Cert.Proof

open Idealize.ShloMosaic Idealize.ShloMosaic.ValueIdx
open scoped BigOperators

/-- The arguments' shapes: the inputs, the edge list (a row of sources, a row of targets), the weights, the bias. -/
abbrev Inputs : Shape := ⟨3, ![16, 16384, 1]⟩
abbrev Edges : Shape := ⟨2, ![2, 2684354]⟩
abbrev Weights : Shape := ⟨1, ![2684354]⟩
abbrev Bias : Shape := ⟨2, ![16384, 1]⟩

/-- The node a word names (modulo the number of nodes, so that there always is one). -/
def nodeOf (w : BitVec 32) : Fin 16384 := ⟨w.toNat % 16384, Nat.mod_lt _ (by decide)⟩

/-- What edge `n` adds at node `j` of output `r`. -/
def edgeTerm (x : Inputs.Idx → EReal) (a : Edges.Idx → BitVec 32) (v : Weights.Idx → EReal) (r : Fin 16) (j : Fin 16384)
    (n : Fin 2684354) : EReal :=
  if (a (ix2 1 n)).toNat = j.val then x (ix3 r (nodeOf (a (ix2 0 n))) 0) * v (ix1 n) else 0

/-- Entry `j` of output `r`. -/
def product (x : Inputs.Idx → EReal) (a : Edges.Idx → BitVec 32) (v : Weights.Idx → EReal) (b : Bias.Idx → EReal) (r : Fin 16)
    (j : Fin 16384) : EReal :=
  b (ix2 j 0) + ∑ n : Fin 2684354, edgeTerm x a v r j n

end Cert.Proof

end
-- ==== Proof.ValueIdeal.lean ====
/-
  Over the extended reals the kernel's result is the sparse product: the sums of the four splits' rows are the bias and the
  sum over the padded edge list, whose padding adds nothing.
-/
module

public import proofs.«01_k».proof.Proof.HostIdeal
public import proofs.«01_k».proof.Proof.Sums
public import proofs.«01_k».proof.Proof.Product
public import Idealize.ShloMosaic.Lib.Pipeline.Value
public import Idealize.ShloMosaic.Lib.Pointwise

@[expose] public section

set_option maxRecDepth 16384

noncomputable section

namespace Cert.Proof.KernelIdeal

open Cert.KernelIdeal Cert.KernelIdeal.Gen Cert.Proof.Model

open Idealize.ShloMosaic hiding ix1 ix2 ix3
open Idealize.ShloMosaic.TcCoe Idealize.ShloMosaic.ValueIdx
open scoped BigOperators

/-! ## The sums of the splits -/

/-- One block of the sums: each entry adds the four splits' entries. -/
theorem pay_at (W : Vec Ideal S4x16x2048 .f32) (r : Fin 16) (c : Fin 2048) :
    (k1_pay1 (F := Ideal) W (ix2 r c) : EReal) = ∑ k : Fin 4, (W (ix3 k r c) : EReal) := by
  show Ideal.reduceAdd reduces_S4x16x2048_S16x2048 (shapeCast S4x16x2048 W shapeCasts_S4x16x2048_S4x16x2048) (ix2 r c) = _
  refine (Ideal.reduceAdd_r3_a0 reduces_S4x16x2048_S16x2048 _ _).trans (Finset.sum_congr rfl fun k _ => ?_)
  exact shapeCast_apply _ _ _ _ rfl

theorem summed_ideal (Z : S4x16x16384.Idx → Elt Ideal .f32) (r : Fin 16) (j : Fin 16384) :
    (summed (F := Ideal) Z (ix2 r j) : EReal) = ∑ k : Fin 4, (Z (ix3 k r j) : EReal) := by
  have hj : j.val < 16384 := j.isLt
  refine (summed_at Z (j.val / 2048) (ix2 r ⟨j.val % 2048, Nat.mod_lt _ (by decide)⟩) (ix2 r j) rfl
    (by show j.val = 2048 * (j.val / 2048) + j.val % 2048; omega)).trans ?_
  refine (pay_at _ r _).trans (Finset.sum_congr rfl fun k _ => ?_)
  show Z _ = Z _
  congr 1
  funext a
  match a with
  | ⟨0, _⟩ => rfl
  | ⟨1, _⟩ => rfl
  | ⟨2, _⟩ => exact Fin.ext (by show (2048 * (j.val / 2048) + j.val % 2048) % 16384 = j.val; omega)

/-! ## The laid-out arguments, entry by entry -/

variable (m : (ℓ : Loc nD τ sig) → Buf (Elt Ideal) ℓ) (d : Dev nD)

/-- The four arguments. -/
abbrev argX : Inputs.Idx → EReal := m (d, Proc.devRef .tc main_arg0)
abbrev argA : Edges.Idx → BitVec 32 := m (d, Proc.devRef .tc main_arg1)
abbrev argV : Weights.Idx → EReal := m (d, Proc.devRef .tc main_arg2)
abbrev argB : Bias.Idx → EReal := m (d, Proc.devRef .tc main_arg3)

theorem at0_at (r : Fin 16) (j : Fin 16384) : (at0 m d (ix2 r j) : EReal) = argX m d (ix3 r j 0) := by
  rw [at0_eq]
  refine shapeCast_apply _ _ _ _ ?_
  refine (Shape.rowMajor_val_three (ix3 r j (0 : Fin 1))).trans (Eq.trans ?_ (Shape.rowMajor_val_two (ix2 r j)).symm)
  show (r.val * 16384 + j.val) * 1 + 0 = r.val * 16384 + j.val
  omega

theorem at8_at (j : Fin 16384) : (at8 m d (ix1 j) : EReal) = argB m d (ix2 j 0) := by
  rw [at8_eq]
  refine shapeCast_apply _ _ _ _ ?_
  refine (Shape.rowMajor_val_two (ix2 j (0 : Fin 1))).trans (Eq.trans ?_ (Shape.rowMajor_val_one (ix1 j)).symm)
  show j.val * 1 + 0 = j.val
  omega

theorem at7_head (i : S2686976.Idx) (n : Fin 2684354) (hi : (i 0).val = n.val) : (at7 m d i : EReal) = argV m d (ix1 n) := by
  rw [at7_eq]
  refine (pad_entry _ _ _ (fun _ => rfl) i).trans ?_
  rw [dif_pos (hi ▸ n.isLt)]
  show m _ _ = m _ _
  congr 1
  funext a
  match a with | ⟨0, _⟩ => exact Fin.ext hi

/-- The padding's weights are zero. -/
theorem at7_tail (i : S2686976.Idx) (hi : 2684354 ≤ (i 0).val) : (at7 m d i : EReal) = 0 := by
  rw [at7_eq]
  refine (pad_entry _ _ (0 : EReal) (fun _ => ?_) i).trans (dif_neg (by omega))
  show (((0#32).toInt : ℝ) : EReal) = 0
  simp

theorem at3_head (i : S2686976.Idx) (n : Fin 2684354) (hi : (i 0).val = n.val) : at3 m d i = argA m d (ix2 0 n) := by
  rw [at3_eq, padded_apply, dif_pos (hi ▸ n.isLt)]
  refine (shapeCast_apply _ _ _ (ix2 0 n : S1x2684354.Idx) ?_).trans (extractStridedSlice_apply _ _ _ _ _ ?_)
  · rw [Shape.rowMajor_val_two, Shape.rowMajor_val_one]
    show 0 * 2684354 + n.val = (i 0).val
    omega
  · intro a
    match a with
    | ⟨0, _⟩ => rfl
    | ⟨1, _⟩ => exact (Nat.zero_add _).symm

theorem at6_head (i : S2686976.Idx) (n : Fin 2684354) (hi : (i 0).val = n.val) : at6 m d i = argA m d (ix2 1 n) := by
  rw [at6_eq, padded_apply, dif_pos (hi ▸ n.isLt)]
  refine (shapeCast_apply _ _ _ (ix2 0 n : S1x2684354.Idx) ?_).trans (extractStridedSlice_apply _ _ _ _ _ ?_)
  · rw [Shape.rowMajor_val_two, Shape.rowMajor_val_one]
    show 0 * 2684354 + n.val = (i 0).val
    omega
  · intro a
    match a with
    | ⟨0, _⟩ => rfl
    | ⟨1, _⟩ => exact (Nat.zero_add _).symm

/-! ## The edges of the padded list -/

theorem hit_head (r : Fin 16) (j : Fin 16384) (n : Fin 2684354) :
    hit (rowOf (at0 m d) r.val) (at3 m d) (at6 m d) (at7 m d) (ix1 j) n.val = edgeTerm (argX m d) (argA m d) (argV m d) r j n := by
  have hn : n.val % 2686976 = n.val := Nat.mod_eq_of_lt (by have := n.isLt; omega)
  have h3 : edge (at3 m d) n.val = argA m d (ix2 0 n) := at3_head m d _ n hn
  have h6 : edge (at6 m d) n.val = argA m d (ix2 1 n) := at6_head m d _ n hn
  have h7 : (edge (at7 m d) n.val : EReal) = argV m d (ix1 n) := at7_head m d _ n hn
  unfold hit edgeTerm
  rw [h3, h6, h7]
  refine if_congr Iff.rfl (congrArg (· * _) ?_) rfl
  refine Eq.trans ?_ (at0_at m d r (nodeOf (argA m d (ix2 0 n))))
  show at0 m d _ = at0 m d _
  congr 1
  funext a
  match a with
  | ⟨0, _⟩ => exact Fin.ext (Nat.mod_eq_of_lt r.isLt)
  | ⟨1, _⟩ => rfl

/-- The padding adds nothing. -/
theorem hit_tail (X : Row.Idx → EReal) (S D : Edge.Idx → BitVec 32) (j : Row.Idx) (n : ℕ) (hn : n < 2622) :
    hit X S D (at7 m d) j (2684354 + n) = 0 := by
  have h7 : (edge (at7 m d) (2684354 + n) : EReal) = 0 := at7_tail m d _ (by
    show 2684354 ≤ (2684354 + n) % 2686976
    omega)
  unfold hit
  rw [h7, mul_zero, ite_self]

theorem hits_sum (r : Fin 16) (j : Fin 16384) :
    ∑ n ∈ Finset.range (splitLen + splitLen + splitLen + splitLen), hit (rowOf (at0 m d) r.val) (at3 m d) (at6 m d) (at7 m d) (ix1 j) n
      = ∑ n : Fin 2684354, edgeTerm (argX m d) (argA m d) (argV m d) r j n := by
  rw [show splitLen + splitLen + splitLen + splitLen = 2684354 + 2622 from rfl, Finset.sum_range_add, Finset.sum_range,
    Finset.sum_eq_zero (s := Finset.range 2622) fun n hn => hit_tail m d _ _ _ _ n (Finset.mem_range.1 hn), add_zero]
  exact Finset.sum_congr rfl fun n _ => hit_head m d r j n

/-! ## The result -/

/-- An entry of the partial sums, by its coordinates. -/
theorem partials_entry (X : Vec Ideal Rows .f32) (S D : Edge.Idx → BitVec 32) (V : Vec Ideal Edge .f32) (B : Vec Ideal Row .f32)
    (i : Parts.Idx) (r : ℕ) (j : Row.Idx) (h0 : (i 0).val = r) (h1 : (i 1).val = (j 0).val) :
    partials X S D V B i = partialRow X S D V B r j := by
  unfold partials
  rw [h0]
  exact congrArg (partialRow X S D V B r) (row_ext h1)

/-- Row `16 * k + r` of the partial sums is row `r` of split `k`. -/
theorem split_row (k r w j : ℕ) : (16 * k + r) * w + j = (k * 16 + r) * w + j := by rw [Nat.mul_comm k 16]

theorem v12_at (h : PreOK m) (r : Fin 16) (j : Fin 16384) (o : Fin 1) :
    (V5 m d (Proc.devRef .tc main_v12) (ix3 r j o) : EReal) = product (argX m d) (argA m d) (argV m d) (argB m d) r j := by
  rw [v12_eq]
  refine (broadcastInDim_apply _ _ _ _ (ix2 r j : S16x16384.Idx) ?_).trans ?_
  · intro a
    match a with
    | ⟨0, _⟩ => rfl
    | ⟨1, _⟩ => rfl
  refine (summed_ideal _ r j).trans ?_
  have hk : ∀ k : Fin 4, (shapeCast S4x16x16384 (parts m d) shapeCasts_S64x16384_S4x16x16384 (ix3 k r j) : EReal)
      = partialRow (at0 m d) (at3 m d) (at6 m d) (at7 m d) (at8 m d) (16 * k.val + r.val) (ix1 j) := by
    intro k
    have hk4 := k.isLt
    have hr := r.isLt
    refine (shapeCast_apply _ _ _ (ix2 ⟨16 * k.val + r.val, by omega⟩ j : S64x16384.Idx) ?_).trans ?_
    · refine (Shape.rowMajor_val_two _).trans (Eq.trans ?_ (Shape.rowMajor_val_three (ix3 k r j)).symm)
      show (16 * k.val + r.val) * 16384 + j.val = (k.val * 16 + r.val) * 16384 + j.val
      exact split_row _ _ _ _
    · unfold parts
      exact partials_entry _ _ _ _ _ _ _ _ rfl rfl
  rw [Finset.sum_congr rfl fun k _ => hk k]
  refine (splits_sum (at0 m d) (at7 m d) (at8 m d) (at3_inRange m d h) (at6_inRange m d h) r.val r.isLt (ix1 j)).trans ?_
  rw [hits_sum, at8_at]
  rfl

end Cert.Proof.KernelIdeal

end
-- ==== Proof.RefValue.lean ====
/-
  Over the extended reals the reference's result is the sparse product: its gather reads the input at each edge's source, its
  scatter adds each edge's term at the edge's target.
-/
module

public import proofs.«01_k».proof.Proof.Gen.ReferenceIdeal.Run
public import proofs.«01_k».proof.Proof.Product
public import Idealize.ShloMosaic.Lib.Pipeline.Value
public import Idealize.ShloMosaic.Lib.Routing.OpsPair

@[expose] public section

set_option maxRecDepth 16384

noncomputable section

namespace Cert.Proof.ReferenceIdeal

open Cert.ReferenceIdeal Cert.ReferenceIdeal.Gen

open Idealize.ShloMosaic
open Idealize.ShloMosaic.TcCoe Idealize.ShloMosaic.ValueIdx Idealize.SL.Sem
open scoped BigOperators

/-! ## The gather and the scatter, entry by entry -/

abbrev gatherD := gather_S16x16384_S2684354x1_S16x2684354_0_1_n_n_1_1_161
abbrev scatterD := scatter_S16384x16_S2684354x1_S2684354x16_1_0_0_1

/-- Column `n` of the gather is the operand's column at index word `n`, read signed and clamped. -/
theorem gather_at {α : Type} (x : S16x16384.Idx → α) (idx : IVec S2684354x1 32) (r : Fin 16) (n : Fin 2684354) :
    Host.gather gatherD x idx (ix2 r n) = x (ix2 r ⟨min (idx (ix2 n 0)).toInt.toNat 16383, by omega⟩) := by
  unfold Host.gather
  congr 1
  funext a
  refine Fin.ext ?_
  show gatherD.start (ix2 r n) idx a + gatherD.batchCoord (ix2 r n) a + gatherD.offCoord (ix2 r n) a = _
  rw [GatherDims.batchCoord_eq_zero _ _ _ List.not_mem_nil]
  match a with
  | ⟨0, _⟩ =>
    have hs : gatherD.start (ix2 r n) idx 0 = 0 := by
      unfold GatherDims.start
      exact dif_neg (by decide)
    have ho : gatherD.offCoord (ix2 r n) 0 = r.val := by
      unfold GatherDims.offCoord
      rw [dif_pos ((GatherDims.mem_sKept _ _).mpr ⟨by decide, List.not_mem_nil⟩)]
      rfl
    show gatherD.start (ix2 r n) idx 0 + 0 + gatherD.offCoord (ix2 r n) 0 = r.val
    rw [hs, ho]
    exact Nat.zero_add _
  | ⟨1, _⟩ =>
    have hm : (1 : Fin 2) ∈ gatherD.startIndexMap := List.mem_singleton.mpr rfl
    have hs : gatherD.start (ix2 r n) idx 1 = min (idx (ix2 n 0)).toInt.toNat 16383 := by
      unfold GatherDims.start
      rw [dif_pos hm]
      have hsi : gatherD.siIdx (ix2 r n) ⟨List.idxOf (1 : Fin 2) gatherD.startIndexMap, List.idxOf_lt_length_iff.2 hm⟩ = ix2 n 0 := by
        funext b
        match b with
        | ⟨0, _⟩ => rfl
        | ⟨1, _⟩ => rfl
      rw [hsi]
      rfl
    have ho : gatherD.offCoord (ix2 r n) 1 = 0 :=
      GatherDims.offCoord_eq_zero _ _ _ fun h => ((GatherDims.mem_sKept _ _).mp h).1 (List.mem_singleton.mpr rfl)
    show gatherD.start (ix2 r n) idx 1 + 0 + gatherD.offCoord (ix2 r n) 1 = _
    rw [hs, ho]
    rfl

/-- Update `(n, q)` of the scatter lands at `(j, r)` exactly when index word `n`, read signed, is `j`, and `q` is `r`. -/
theorem lands (idx : IVec S2684354x1 32) (n : Fin 2684354) (q r : Fin 16) (j : Fin 16384) :
    scatterD.resultIdx? (ix2 n q) idx = some (ix2 j r) ↔ (idx (ix2 n 0)).toInt = (j.val : Int) ∧ q = r := by
  have hm : (0 : Fin 2) ∈ scatterD.scatterDimsToOperandDims := List.mem_singleton.mpr rfl
  have hw0 : scatterD.window (ix2 n q) 0 = 0 := by
    unfold ScatterDims.window
    exact dif_neg (by decide)
  have hw1 : scatterD.window (ix2 n q) 1 = q.val := by
    unfold ScatterDims.window
    rw [dif_pos (by decide)]
    rfl
  have hs0 : scatterD.start (ix2 n q) idx 0 = (idx (ix2 n 0)).toInt := by
    unfold ScatterDims.start
    rw [dif_pos hm]
    have hsi : scatterD.siIdx (ix2 n q) ⟨List.idxOf (0 : Fin 2) scatterD.scatterDimsToOperandDims, List.idxOf_lt_length_iff.2 hm⟩
        = ix2 n 0 := by
      funext b
      match b with
      | ⟨0, _⟩ => rfl
      | ⟨1, _⟩ => rfl
    rw [hsi]
  have hs1 : scatterD.start (ix2 n q) idx 1 = 0 := by
    unfold ScatterDims.start
    exact dif_neg (by decide)
  rw [Fin.ext_iff]
  refine (Routing.resultIdx?_ix2 scatterD (ix2 n q) idx j r).trans ?_
  rw [hs0, hs1, hw0, hw1]
  omega

/-- A scatter of rows with addition: each entry gets the updates whose index word names its row. -/
theorem scatter_at (x : S16384x16.Idx → EReal) (idx : IVec S2684354x1 32) (u : S2684354x16.Idx → EReal) (j : Fin 16384) (r : Fin 16) :
    (Host.scatterAdd (F := Ideal) (φ := .f32) scatterD x idx u (ix2 j r) : EReal)
      = x (ix2 j r) + ∑ n : Fin 2684354, if (idx (ix2 n 0)).toInt = (j.val : Int) then u (ix2 n r) else 0 := by
  show Ideal.hostScatterAdd scatterD x idx u (ix2 j r) = _
  unfold Ideal.hostScatterAdd
  refine congrArg (x (ix2 j r) + ·) ?_
  rw [Finset.sum_filter, sum_idx2]
  refine Finset.sum_congr rfl fun n _ => ?_
  by_cases h : (idx (ix2 n 0)).toInt = (j.val : Int)
  · rw [if_pos h, Finset.sum_eq_single r]
    · exact if_pos ((lands idx n r r j).2 ⟨h, rfl⟩)
    · exact fun q _ hq => if_neg fun hl => hq ((lands idx n q r j).1 hl).2
    · exact fun hr => absurd (Finset.mem_univ r) hr
  · rw [if_neg h]
    exact Finset.sum_eq_zero fun q _ => if_neg fun hl => h ((lands idx n q r j).1 hl).1

/-! ## The result, as a function of the arguments -/

variable (x : S16x16384x1.Idx → EReal) (a : S2x2684354.Idx → BitVec 32) (v : S2684354.Idx → EReal) (b : S16384x1.Idx → EReal)

/-- The sources and the targets. -/
def srcs : IVec S2684354 32 :=
  shapeCast S2684354 (extractStridedSlice S1x2684354 ![0, 0] a slices_S2x2684354_S1x2684354_0_0) shapeCasts_S1x2684354_S2684354
def dsts : IVec S2684354 32 :=
  shapeCast S2684354 (extractStridedSlice S1x2684354 ![1, 0] a slices_S2x2684354_S1x2684354_1_0) shapeCasts_S1x2684354_S2684354

theorem srcs_at (n : Fin 2684354) : srcs a (ix1 n) = a (ix2 0 n) := by
  unfold srcs
  refine (shapeCast_apply _ _ _ (ix2 0 n : S1x2684354.Idx) ?_).trans (extractStridedSlice_apply _ _ _ _ _ ?_)
  · refine (Shape.rowMajor_val_two _).trans (Eq.trans ?_ (Shape.rowMajor_val_one _).symm)
    show 0 * 2684354 + n.val = n.val
    omega
  · intro c
    match c with
    | ⟨0, _⟩ => rfl
    | ⟨1, _⟩ => exact (Nat.zero_add _).symm

theorem dsts_at (n : Fin 2684354) : dsts a (ix1 n) = a (ix2 1 n) := by
  unfold dsts
  refine (shapeCast_apply _ _ _ (ix2 0 n : S1x2684354.Idx) ?_).trans (extractStridedSlice_apply _ _ _ _ _ ?_)
  · refine (Shape.rowMajor_val_two _).trans (Eq.trans ?_ (Shape.rowMajor_val_one _).symm)
    show 0 * 2684354 + n.val = n.val
    omega
  · intro c
    match c with
    | ⟨0, _⟩ => rfl
    | ⟨1, _⟩ => exact (Nat.zero_add _).symm

/-- The sources as the gather reads them: a negative one would count from the end. -/
def wrapped : IVec S2684354 32 :=
  select (cmpi .slt (srcs a) (broadcastInDim S2684354 ![] bcast_S_S2684354 (constantI S_ 32 0#32)))
    (addi (srcs a) (broadcastInDim S2684354 ![] bcast_S_S2684354 (constantI S_ 32 16384#32))) (srcs a)

theorem wrapped_at (h : ∀ i, (a i).toNat < 16384) (n : Fin 2684354) : wrapped a (ix1 n) = a (ix2 0 n) := by
  refine Eq.trans ?_ (srcs_at a n)
  refine Routing.wrap_of_lt (srcs a (ix1 n)) _ ?_
  rw [srcs_at]
  exact lt_trans (h _) (by decide)

/-- The edges' terms, one row per input. -/
def contrib : FVec Ideal S16x2684354 .f32 :=
  mulf (F := Ideal) (Host.gather gatherD (shapeCast S16x16384 x shapeCasts_S16x16384x1_S16x16384)
      (broadcastInDim S2684354x1 ![0] bcast_S2684354_S2684354x1_0 (wrapped a)))
    (broadcastInDim S16x2684354 ![0, 1] bcast_S1x2684354_S16x2684354_0_1 (broadcastInDim S1x2684354 ![1] bcast_S2684354_S1x2684354_1 v))

theorem column_at {α : Type} (s : S2684354.Idx → α) (n : Fin 2684354) :
    broadcastInDim S2684354x1 ![0] bcast_S2684354_S2684354x1_0 s (ix2 n 0) = s (ix1 n) :=
  broadcastInDim_apply _ _ _ _ _ fun c => by
    match c with | ⟨0, _⟩ => rfl

theorem toInt_small (w : BitVec 32) (h : w.toNat < 16384) : w.toInt = (w.toNat : Int) := BitVec.toInt_eq_toNat_of_lt (by omega)

theorem contrib_at (h : ∀ i, (a i).toNat < 16384) (r : Fin 16) (n : Fin 2684354) :
    (contrib x a v (ix2 r n) : EReal) = x (ix3 r (nodeOf (a (ix2 0 n))) 0) * v (ix1 n) := by
  have hn := h (ix2 0 n)
  have e1 : Host.gather gatherD (shapeCast S16x16384 x shapeCasts_S16x16384x1_S16x16384)
      (broadcastInDim S2684354x1 ![0] bcast_S2684354_S2684354x1_0 (wrapped a)) (ix2 r n) = x (ix3 r (nodeOf (a (ix2 0 n))) 0) := by
    rw [gather_at]
    refine shapeCast_apply _ _ _ _ ?_
    refine (Shape.rowMajor_val_three _).trans (Eq.trans ?_ (Shape.rowMajor_val_two _).symm)
    have hw := (column_at (wrapped a) n).trans (wrapped_at a h n)
    show (r.val * 16384 + (a (ix2 0 n)).toNat % 16384) * 1 + 0
      = r.val * 16384 + min (broadcastInDim S2684354x1 ![0] bcast_S2684354_S2684354x1_0 (wrapped a) (ix2 n 0)).toInt.toNat 16383
    rw [hw, toInt_small _ hn]
    omega
  have e2 : broadcastInDim S16x2684354 ![0, 1] bcast_S1x2684354_S16x2684354_0_1
      (broadcastInDim S1x2684354 ![1] bcast_S2684354_S1x2684354_1 v) (ix2 r n) = v (ix1 n) := by
    refine (broadcastInDim_apply _ _ _ _ (ix2 0 n : S1x2684354.Idx) fun c => ?_).trans (broadcastInDim_apply _ _ _ _ _ fun c => ?_)
    · match c with
      | ⟨0, _⟩ => rfl
      | ⟨1, _⟩ => rfl
    · match c with | ⟨0, _⟩ => rfl
  exact congrArg₂ (· * ·) e1 e2

/-- The sums over the edges that point at a node. -/
def segments : FVec Ideal S16384x16 .f32 :=
  Host.scatterAdd (F := Ideal) scatterD (broadcastInDim S16384x16 ![] bcast_S_S16384x16 (constant (F := Ideal) S_ .f32 0x00000000#32))
    (broadcastInDim S2684354x1 ![0] bcast_S2684354_S2684354x1_0 (dsts a))
    (transpose S2684354x16 [1, 0] (contrib x a v) transposes_S16x2684354_S2684354x16_1_0)

theorem segments_at (h : ∀ i, (a i).toNat < 16384) (r : Fin 16) (j : Fin 16384) :
    (segments x a v (ix2 j r) : EReal) = ∑ n : Fin 2684354, edgeTerm x a v r j n := by
  refine (scatter_at _ _ _ j r).trans ?_
  have hz : (broadcastInDim S16384x16 ![] bcast_S_S16384x16 (constant (F := Ideal) S_ .f32 0x00000000#32) (ix2 j r) : EReal) = 0 := by
    show Ideal.ofBits .f32 0x00000000#32 = 0
    simp [Ideal.ofBits, Ideal.ieee]
  refine (congrArg (· + _) hz).trans ((zero_add _).trans (Finset.sum_congr rfl fun n _ => ?_))
  unfold edgeTerm
  rw [column_at, dsts_at, toInt_small _ (h _)]
  refine if_congr Nat.cast_inj ?_ rfl
  refine Eq.trans ?_ (contrib_at x a v h r n)
  refine transpose_apply _ _ _ _ _ fun c => ?_
  match c with
  | ⟨0, _⟩ => rfl
  | ⟨1, _⟩ => rfl

/-- A sum of arrays, entry by entry. -/
theorem add_at {s : Shape} (p q : FVec Ideal s .f32) (i : s.Idx) : (addf (F := Ideal) p q i : EReal) = (p i : EReal) + (q i : EReal) := rfl

/-- The reference's result. -/
def result : FVec Ideal S16x16384x1 .f32 :=
  addf (F := Ideal) (broadcastInDim S16x16384x1 ![0, 1] bcast_S16x16384_S16x16384x1_0_1
      (transpose S16x16384 [1, 0] (segments x a v) transposes_S16384x16_S16x16384_1_0))
    (broadcastInDim S16x16384x1 ![0, 1, 2] bcast_S1x16384x1_S16x16384x1_0_1_2 (broadcastInDim S1x16384x1 ![1, 2] bcast_S16384x1_S1x16384x1_1_2 b))

theorem result_at (h : ∀ i, (a i).toNat < 16384) (r : Fin 16) (j : Fin 16384) (o : Fin 1) :
    (result x a v b (ix3 r j o) : EReal) = product x a v b r j := by
  have e1 : (broadcastInDim S16x16384x1 ![0, 1] bcast_S16x16384_S16x16384x1_0_1
      (transpose S16x16384 [1, 0] (segments x a v) transposes_S16384x16_S16x16384_1_0) (ix3 r j o) : EReal)
        = ∑ n : Fin 2684354, edgeTerm x a v r j n := by
    refine (broadcastInDim_apply _ _ _ _ (ix2 r j : S16x16384.Idx) fun c => ?_).trans ?_
    · match c with
      | ⟨0, _⟩ => rfl
      | ⟨1, _⟩ => rfl
    · refine Eq.trans ?_ (segments_at x a v h r j)
      refine transpose_apply _ _ _ _ _ fun c => ?_
      match c with
      | ⟨0, _⟩ => rfl
      | ⟨1, _⟩ => rfl
  have e2 : (broadcastInDim S16x16384x1 ![0, 1, 2] bcast_S1x16384x1_S16x16384x1_0_1_2
      (broadcastInDim S1x16384x1 ![1, 2] bcast_S16384x1_S1x16384x1_1_2 b) (ix3 r j o) : EReal) = b (ix2 j 0) := by
    refine (broadcastInDim_apply _ _ _ _ (ix3 0 j 0 : S1x16384x1.Idx) fun c => ?_).trans (broadcastInDim_apply _ _ _ _ _ fun c => ?_)
    · match c with
      | ⟨0, _⟩ => rfl
      | ⟨1, _⟩ => rfl
      | ⟨2, _⟩ => rfl
    · match c with
      | ⟨0, _⟩ => rfl
      | ⟨1, _⟩ => rfl
  unfold result product
  exact (add_at _ _ _).trans ((congrArg₂ (· + ·) e1 e2).trans (add_comm _ _))

/-- A run of the reference ends with that result, the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold result segments contrib wrapped srcs dsts
  exact Cert.ReferenceIdeal.Value.run m ρ

end Cert.Proof.ReferenceIdeal

end
-- ==== Proof.lean ====
/-
  The certificate: the kernel runs and leaves its arguments, at bit patterns and at extended reals; the reference runs
  and leaves its arguments; and over the extended reals the two end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.FramesIdeal
public import proofs.«01_k».proof.Proof.ValueIdeal
public import proofs.«01_k».proof.Proof.RefValue
public import Idealize.ShloMosaic.Adequacy
public import Idealize.ShloMosaic.Init

@[expose] public section

noncomputable section

namespace Cert.Proof

open Idealize.ShloMosaic Idealize.SL.Sem

/-- The kernel runs and leaves its arguments. -/
theorem frame_kernel : Cert.quiescent_Kernel := fun m g hpre =>
  (θ_run Cert.Kernel.defs _ _).mono (fun _ h => ⟨fun c => Kernel.done_args h c, h.2⟩) (Kernel.run_main m g (Kernel.preOK_of m hpre))

/-- Its idealization runs and leaves its arguments. -/
theorem frame_kernelIdeal : Cert.quiescent_KernelIdeal := fun m g hpre =>
  (θ_run Cert.KernelIdeal.defs _ _).mono (fun _ h => ⟨fun c => KernelIdeal.done_args h c, h.2⟩)
    (KernelIdeal.run_main m g (KernelIdeal.preOK_of m hpre))

/-- The reference runs and leaves its arguments; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- So it does from memories in the kernel's range. -/
theorem frame_reference_pre : Cert.quiescent_ReferenceIdeal_pre_in_range := fun m g _ => frame_reference m g trivial

/-- The two results are equal: both are the sparse product of the arguments. -/
theorem results_eq (m : (ℓ : Loc Cert.KernelIdeal.nD Cert.KernelIdeal.τ Cert.KernelIdeal.sig) → Buf (Elt Ideal) ℓ)
    (h : KernelIdeal.PreOK m) (d : Dev Cert.KernelIdeal.nD) :
    ReferenceIdeal.result (KernelIdeal.argX m d) (KernelIdeal.argA m d) (KernelIdeal.argV m d) (KernelIdeal.argB m d)
      = KernelIdeal.V5 m d (Proc.devRef .tc Cert.KernelIdeal.main_v12) := by
  funext i
  have hi : i = ValueIdx.ix3 (i 0) (i 1) (i 2) := ValueIdx.eq_ix3 i
  rw [hi]
  exact (ReferenceIdeal.result_at _ _ _ _ (h d) (i 0) (i 1) (i 2)).trans (KernelIdeal.v12_at m d h (i 0) (i 1) (i 2)).symm

/-- Over the extended reals the kernel and the reference, run on equal arguments, end with equal results. -/
theorem equal_results : Cert.algebraic_KernelIdeal_ReferenceIdeal := by
  intro m g m' g' hpre hargs
  have hok : KernelIdeal.PreOK m := KernelIdeal.preOK_of m hpre
  refine ⟨fun c => KernelIdeal.V5 m c (Proc.devRef .tc Cert.KernelIdeal.main_v12), ?_, ?_⟩
  · exact (θ_run Cert.KernelIdeal.defs _ _).mono (fun _ h c => ⟨KernelIdeal.done_out h c, KernelIdeal.done_args h c⟩)
      (KernelIdeal.run_main m g hok)
  · refine (θ_run Cert.ReferenceIdeal.defs _ _).mono (fun _ h c => ⟨(h c).1.trans ?_, (h c).2⟩) (ReferenceIdeal.run_result m' g')
    rw [(hargs c).1, (hargs c).2.1, (hargs c).2.2.1, (hargs c).2.2.2]
    exact results_eq m hok c

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, equal_results⟩

end Cert.Proof

end
